-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal [hPre_normal : Cert.Pre_normal.Facts] (m : (ℓ : Loc Cert.KernelIdeal.nD Cert.KernelIdeal.τ Cert.KernelIdeal.sig) → Buf (Elt Ideal) ℓ) : Prop :=
  ∀ c : Dev Cert.KernelIdeal.nD,
    (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal [hPre_normal : Cert.Pre_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal [hKernelIdeal : Cert.KernelIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal [hReferenceIdeal : Cert.ReferenceIdeal.Facts] [hPre_normal : Cert.Pre_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal [hKernelIdeal : Cert.KernelIdeal.Facts] [hReferenceIdeal : Cert.ReferenceIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32_0) = v0 c
          ∧ r.2.mem ((c.tc : Thread Cert.ReferenceIdeal.nD Cert.ReferenceIdeal.τ).loc Cert.ReferenceIdeal.main_v32_1) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal : Cert.Pre_normal.Facts),
    quiescent_Kernel (hKernel := hKernel)
    ∧ quiescent_KernelIdeal (hKernelIdeal := hKernelIdeal)
    ∧ quiescent_KernelIdeal_pre_normal (hKernelIdeal := hKernelIdeal) (hPre_normal := hPre_normal)
    ∧ quiescent_ReferenceIdeal (hReferenceIdeal := hReferenceIdeal)
    ∧ quiescent_ReferenceIdeal_pre_normal (hReferenceIdeal := hReferenceIdeal) (hPre_normal := hPre_normal)
    ∧ preserves_Kernel_KernelIdeal
    ∧ algebraic_KernelIdeal_ReferenceIdeal_pre_normal (hKernelIdeal := hKernelIdeal) (hReferenceIdeal := hReferenceIdeal) (hPre_normal := hPre_normal)
-- ==== Pre_normal.lean ====
abbrev S3x2048x2816 : Shape := ⟨3, ![3, 2048, 2816]⟩
abbrev S3584x2816 : Shape := ⟨2, ![3584, 2816]⟩
abbrev S28x22 : Shape := ⟨2, ![28, 22]⟩
abbrev S6144x22x128 : Shape := ⟨3, ![6144, 22, 128]⟩
abbrev S_ : Shape := ⟨0, ![]⟩
abbrev S6144x22 : Shape := ⟨2, ![6144, 22]⟩

class Facts : Prop where
  shapeCasts_S3x2048x2816_S6144x22x128 : S3x2048x2816.ShapeCasts S6144x22x128
  bitsLt_bf16_f32 : FTy.bits .bf16 < FTy.bits .f32
  reducesTo_S6144x22x128_S6144x22_d2 : S6144x22x128.ReducesTo [2] S6144x22
  h_S_ : 0 < S_.numel
  bcast_S_S6144x22 : S_.BroadcastsInDim S6144x22 (![] : Fin 0 → Fin S6144x22.rank)
  reducesTo_S6144x22_S_d0_1 : S6144x22.ReducesTo [0, 1] S_

variable [Facts]

def fn {F : FTy → Type} [FloatOps F] (main_arg0 : FVec F S3x2048x2816 .bf16) (main_arg1 : FVec F S3584x2816 .fp8e4m3) (main_arg2 : FVec F S28x22 .f32) : IVec S_ 1 :=
  let main_v0 : FVec F S6144x22x128 .bf16 := shapeCast S6144x22x128 main_arg0 shapeCasts_S3x2048x2816_S6144x22x128
  let main_v1 : FVec F S6144x22x128 .f32 := (extf .f32 · bitsLt_bf16_f32) main_v0
  let main_v2 : FVec F S6144x22x128 .f32 := Host.absf main_v1
  let main_cst : FVec F S_ .f32 := constant S_ .f32 0xFF800000#32
  let main_v3 : FVec F S6144x22 .f32 := (fun x v => Host.reduce FloatOps.maximumf x v reducesTo_S6144x22x128_S6144x22_d2 h_S_) main_v2 main_cst
  let main_cst_0 : FVec F S_ .f32 := constant S_ .f32 0x3B124925#32
  let main_v4 : FVec F S6144x22 .f32 := broadcastInDim S6144x22 ![] bcast_S_S6144x22 main_cst_0
  let main_v5 : FVec F S6144x22 .f32 := mulf main_v3 main_v4
  let main_cst_1 : FVec F S_ .f32 := constant S_ .f32 0x00000000#32
  let main_v6 : FVec F S6144x22 .f32 := broadcastInDim S6144x22 ![] bcast_S_S6144x22 main_cst_1
  let main_v7 : IVec S6144x22 1 := cmpf .oeq main_v3 main_v6
  let main_cst_2 : FVec F S_ .f32 := constant S_ .f32 0x00800000#32
  let main_v8 : FVec F S6144x22 .f32 := broadcastInDim S6144x22 ![] bcast_S_S6144x22 main_cst_2
  let main_v9 : IVec S6144x22 1 := cmpf .oge main_v5 main_v8
  let main_cst_3 : FVec F S_ .f32 := constant S_ .f32 0x7F7F0000#32
  let main_v10 : FVec F S6144x22 .f32 := broadcastInDim S6144x22 ![] bcast_S_S6144x22 main_cst_3
  let main_v11 : IVec S6144x22 1 := cmpf .ole main_v3 main_v10
  let main_v12 : IVec S6144x22 1 := andi main_v9 main_v11
  let main_v13 : IVec S6144x22 1 := ori main_v7 main_v12
  let main_c : IVec S_ 1 := constantI S_ 1 1#1
  let main_v14 : IVec S_ 1 := (fun x v => Host.reduce IntOp.andi x v reducesTo_S6144x22_S_d0_1 h_S_) main_v13 main_c
  main_v14
-- ==== Kernel.lean ====
abbrev S3x2048x2816 : Shape := ⟨3, ![3, 2048, 2816]⟩
abbrev S3584x2816 : Shape := ⟨2, ![3584, 2816]⟩
abbrev S28x22 : Shape := ⟨2, ![28, 22]⟩
abbrev S_ : Shape := ⟨0, ![]⟩
abbrev S28x24 : Shape := ⟨2, ![28, 24]⟩
abbrev S672x1 : Shape := ⟨2, ![672, 1]⟩
abbrev S6144x2816 : Shape := ⟨2, ![6144, 2816]⟩
abbrev S6144x3584 : Shape := ⟨2, ![6144, 3584]⟩
abbrev S6144x22 : Shape := ⟨2, ![6144, 22]⟩
abbrev S1024x2816 : Shape := ⟨2, ![1024, 2816]⟩
abbrev S512x2816 : Shape := ⟨2, ![512, 2816]⟩
abbrev S96x1 : Shape := ⟨2, ![96, 1]⟩
abbrev S1024x512 : Shape := ⟨2, ![1024, 512]⟩
abbrev S1024x22 : Shape := ⟨2, ![1024, 22]⟩
abbrev S2816x1024 : Shape := ⟨2, ![2816, 1024]⟩
abbrev S24x1024 : Shape := ⟨2, ![24, 1024]⟩
abbrev S96x1024 : Shape := ⟨2, ![96, 1024]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S256x22 : Shape := ⟨2, ![256, 22]⟩
abbrev S256x106 : Shape := ⟨2, ![256, 106]⟩
abbrev S24x256 : Shape := ⟨2, ![24, 256]⟩
abbrev S24x1 : Shape := ⟨2, ![24, 1]⟩
abbrev S128x128 : Shape := ⟨2, ![128, 128]⟩
abbrev S1x256 : Shape := ⟨2, ![1, 256]⟩

abbrev nBuf : Space → Nat
  | .hbm => 11
  | .vmem => 15
  | .smem => 0
  | _ => 0

abbrev bufTy : (tb : Table) → Fin (tcTables nBuf tb) → BufTy
  | .hbm, ⟨0, _⟩ => ⟨S3x2048x2816, .bf16⟩
  | .hbm, ⟨1, _⟩ => ⟨S3584x2816, .fp8e4m3⟩
  | .hbm, ⟨2, _⟩ => ⟨S28x22, .f32⟩
  | .hbm, ⟨3, _⟩ => ⟨S_, .i32⟩
  | .hbm, ⟨4, _⟩ => ⟨S_, .f32⟩
  | .hbm, ⟨5, _⟩ => ⟨S28x24, .f32⟩
  | .hbm, ⟨6, _⟩ => ⟨S672x1, .f32⟩
  | .hbm, ⟨7, _⟩ => ⟨S6144x2816, .bf16⟩
  | .hbm, ⟨8, _⟩ => ⟨S6144x3584, .bf16⟩
  | .hbm, ⟨9, _⟩ => ⟨S6144x2816, .fp8e4m3⟩
  | .hbm, ⟨10, _⟩ => ⟨S6144x22, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .fp8e4m3⟩
  | .local _ .vmem, ⟨3, _⟩ => ⟨S512x2816, .fp8e4m3⟩
  | .local _ .vmem, ⟨4, _⟩ => ⟨S96x1, .f32⟩
  | .local _ .vmem, ⟨5, _⟩ => ⟨S96x1, .f32⟩
  | .local _ .vmem, ⟨6, _⟩ => ⟨S1024x512, .bf16⟩
  | .local _ .vmem, ⟨7, _⟩ => ⟨S1024x512, .bf16⟩
  | .local _ .vmem, ⟨8, _⟩ => ⟨S1024x2816, .fp8e4m3⟩
  | .local _ .vmem, ⟨9, _⟩ => ⟨S1024x2816, .fp8e4m3⟩
  | .local _ .vmem, ⟨10, _⟩ => ⟨S1024x22, .f32⟩
  | .local _ .vmem, ⟨11, _⟩ => ⟨S1024x22, .f32⟩
  | .local _ .vmem, ⟨12, _⟩ => ⟨S2816x1024, .fp8e4m3⟩
  | .local _ .vmem, ⟨13, _⟩ => ⟨S24x1024, .f32⟩
  | .local _ .vmem, ⟨14, _⟩ => ⟨S96x1024, .f32⟩
  | _, _ => ⟨S3x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2411 : BitVec 32 := 0#32
  let c4_i32 : BitVec 32 := 4#32
  let v2531 : BitVec 32 := Scalar.addi c0_i32_2411 c4_i32
  let c1_i32 : BitVec 32 := 1#32
  ⟨c0_i32_2411, v2531, c1_i32⟩
def k0_off1 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2533 : Index := Scalar.indexCast v2532
  let c0_2413 : Index := 0#32
  ![v2533.toNat, 0]
def k0_off2 (k0_t1 : Fin k0_t1_loop.trips) : Fin 2 → Nat :=
  let c0_2434 : Index := 0#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2632 : Index := Scalar.indexCast v2532
  ![0, v2632.toNat]
def k0_off3 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2636 : Index := Scalar.indexCast v2532
  let c128_2435 : Index := 128#32
  ![v2636.toNat, 128]
def k0_off4 (k0_t1 : Fin k0_t1_loop.trips) : Fin 2 → Nat :=
  let c128_2466 : Index := 128#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2735 : Index := Scalar.indexCast v2532
  ![128, v2735.toNat]
def k0_off5 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2739 : Index := Scalar.indexCast v2532
  let c256_2467 : Index := 256#32
  ![v2739.toNat, 256]
def k0_off6 (k0_t1 : Fin k0_t1_loop.trips) : Fin 2 → Nat :=
  let c256_2498 : Index := 256#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2838 : Index := Scalar.indexCast v2532
  ![256, v2838.toNat]
def k0_off7 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2842 : Index := Scalar.indexCast v2532
  let c384_2499 : Index := 384#32
  ![v2842.toNat, 384]
def k0_off8 (k0_t1 : Fin k0_t1_loop.trips) : Fin 2 → Nat :=
  let c384_2530 : Index := 384#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2941 : Index := Scalar.indexCast v2532
  ![384, v2941.toNat]
def k0_off9 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v2945 : Index := Scalar.indexCast v2532
  let c512_2531 : Index := 512#32
  ![v2945.toNat, 512]
def k0_off10 (k0_t1 : Fin k0_t1_loop.trips) : Fin 2 → Nat :=
  let c512_2562 : Index := 512#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3044 : Index := Scalar.indexCast v2532
  ![512, v3044.toNat]
def k0_off11 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3048 : Index := Scalar.indexCast v2532
  let c640_2563 : Index := 640#32
  ![v3048.toNat, 640]
def k0_off12 (k0_t1 : Fin k0_t1_loop.trips) : Fin 2 → Nat :=
  let c640_2594 : Index := 640#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3147 : Index := Scalar.indexCast v2532
  ![640, v3147.toNat]
def k0_off13 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3151 : Index := Scalar.indexCast v2532
  let c768_2595 : Index := 768#32
  ![v3151.toNat, 768]
def k0_off14 (k0_t1 : Fin k0_t1_loop.trips) : Fin 2 → Nat :=
  let c768_2626 : Index := 768#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3250 : Index := Scalar.indexCast v2532
  ![768, v3250.toNat]
def k0_off15 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3254 : Index := Scalar.indexCast v2532
  let c896_2627 : Index := 896#32
  ![v3254.toNat, 896]
def k0_off16 (k0_t1 : Fin k0_t1_loop.trips) : Fin 2 → Nat :=
  let c896_2658 : Index := 896#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3353 : Index := Scalar.indexCast v2532
  ![896, v3353.toNat]
def k0_off17 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3357 : Index := Scalar.indexCast v2532
  let c1024_2659 : Index := 1024#32
  ![v3357.toNat, 1024]
def k0_off18 (k0_t1 : Fin k0_t1_loop.trips) : Fin 2 → Nat :=
  let c1024_2690 : Index := 1024#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3456 : Index := Scalar.indexCast v2532
  ![1024, v3456.toNat]
def k0_off19 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3460 : Index := Scalar.indexCast v2532
  let c1152_2691 : Index := 1152#32
  ![v3460.toNat, 1152]
def k0_off20 (k0_t1 : Fin k0_t1_loop.trips) : Fin 2 → Nat :=
  let c1152_2722 : Index := 1152#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3559 : Index := Scalar.indexCast v2532
  ![1152, v3559.toNat]
def k0_off21 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3563 : Index := Scalar.indexCast v2532
  let c1280_2723 : Index := 1280#32
  ![v3563.toNat, 1280]
def k0_off22 (k0_t1 : Fin k0_t1_loop.trips) : Fin 2 → Nat :=
  let c1280_2754 : Index := 1280#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3662 : Index := Scalar.indexCast v2532
  ![1280, v3662.toNat]
def k0_off23 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3666 : Index := Scalar.indexCast v2532
  let c1408_2755 : Index := 1408#32
  ![v3666.toNat, 1408]
def k0_off24 (k0_t1 : Fin k0_t1_loop.trips) : Fin 2 → Nat :=
  let c1408_2786 : Index := 1408#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3765 : Index := Scalar.indexCast v2532
  ![1408, v3765.toNat]
def k0_off25 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3769 : Index := Scalar.indexCast v2532
  let c1536_2787 : Index := 1536#32
  ![v3769.toNat, 1536]
def k0_off26 (k0_t1 : Fin k0_t1_loop.trips) : Fin 2 → Nat :=
  let c1536_2818 : Index := 1536#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3868 : Index := Scalar.indexCast v2532
  ![1536, v3868.toNat]
def k0_off27 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3872 : Index := Scalar.indexCast v2532
  let c1664_2819 : Index := 1664#32
  ![v3872.toNat, 1664]
def k0_off28 (k0_t1 : Fin k0_t1_loop.trips) : Fin 2 → Nat :=
  let c1664_2850 : Index := 1664#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3971 : Index := Scalar.indexCast v2532
  ![1664, v3971.toNat]
def k0_off29 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v3975 : Index := Scalar.indexCast v2532
  let c1792_2851 : Index := 1792#32
  ![v3975.toNat, 1792]
def k0_off30 (k0_t1 : Fin k0_t1_loop.trips) : Fin 2 → Nat :=
  let c1792_2882 : Index := 1792#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4074 : Index := Scalar.indexCast v2532
  ![1792, v4074.toNat]
def k0_off31 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4078 : Index := Scalar.indexCast v2532
  let c1920_2883 : Index := 1920#32
  ![v4078.toNat, 1920]
def k0_off32 (k0_t1 : Fin k0_t1_loop.trips) : Fin 2 → Nat :=
  let c1920_2914 : Index := 1920#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4177 : Index := Scalar.indexCast v2532
  ![1920, v4177.toNat]
def k0_off33 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4181 : Index := Scalar.indexCast v2532
  let c2048_2915 : Index := 2048#32
  ![v4181.toNat, 2048]
def k0_off34 (k0_t1 : Fin k0_t1_loop.trips) : Fin 2 → Nat :=
  let c2048_2946 : Index := 2048#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4280 : Index := Scalar.indexCast v2532
  ![2048, v4280.toNat]
def k0_off35 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4284 : Index := Scalar.indexCast v2532
  let c2176_2947 : Index := 2176#32
  ![v4284.toNat, 2176]
def k0_off36 (k0_t1 : Fin k0_t1_loop.trips) : Fin 2 → Nat :=
  let c2176_2978 : Index := 2176#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4383 : Index := Scalar.indexCast v2532
  ![2176, v4383.toNat]
def k0_off37 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4387 : Index := Scalar.indexCast v2532
  let c2304_2979 : Index := 2304#32
  ![v4387.toNat, 2304]
def k0_off38 (k0_t1 : Fin k0_t1_loop.trips) : Fin 2 → Nat :=
  let c2304_3010 : Index := 2304#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4486 : Index := Scalar.indexCast v2532
  ![2304, v4486.toNat]
def k0_off39 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4490 : Index := Scalar.indexCast v2532
  let c2432_3011 : Index := 2432#32
  ![v4490.toNat, 2432]
def k0_off40 (k0_t1 : Fin k0_t1_loop.trips) : Fin 2 → Nat :=
  let c2432_3042 : Index := 2432#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4589 : Index := Scalar.indexCast v2532
  ![2432, v4589.toNat]
def k0_off41 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4593 : Index := Scalar.indexCast v2532
  let c2560_3043 : Index := 2560#32
  ![v4593.toNat, 2560]
def k0_off42 (k0_t1 : Fin k0_t1_loop.trips) : Fin 2 → Nat :=
  let c2560_3074 : Index := 2560#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4692 : Index := Scalar.indexCast v2532
  ![2560, v4692.toNat]
def k0_off43 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4696 : Index := Scalar.indexCast v2532
  let c2688_3075 : Index := 2688#32
  ![v4696.toNat, 2688]
def k0_off44 (k0_t1 : Fin k0_t1_loop.trips) : Fin 2 → Nat :=
  let c2688_3106 : Index := 2688#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4795 : Index := Scalar.indexCast v2532
  ![2688, v4795.toNat]
def k0_off45 (k0_t1 : Fin k0_t1_loop.trips) : Fin 2 → Nat :=
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4800 : Index := Scalar.indexCast v2532
  let c0_3107 : Index := 0#32
  ![v4800.toNat, 0]
def k0_off46 (k0_t1 : Fin k0_t1_loop.trips) : Fin 2 → Nat :=
  let c0_3109 : Index := 0#32
  let c0_i32_2411 : BitVec 32 := 0#32
  let c1_i32 : BitVec 32 := 1#32
  let arg11 : BitVec 32 := Scf.iv c0_i32_2411 c1_i32 k0_t1
  let c256_i32 : BitVec 32 := 256#32
  let v2532 : BitVec 32 := Scalar.muli arg11 c256_i32
  let v4806 : Index := Scalar.indexCast v2532
  ![0, v4806.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S96x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2816 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x22 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S3x2048x2816 : Shape := ⟨3, ![3, 2048, 2816]⟩
abbrev S3584x2816 : Shape := ⟨2, ![3584, 2816]⟩
abbrev S28x22 : Shape := ⟨2, ![28, 22]⟩
abbrev S6144x22x128 : Shape := ⟨3, ![6144, 22, 128]⟩
abbrev S_ : Shape := ⟨0, ![]⟩
abbrev S6144x22 : Shape := ⟨2, ![6144, 22]⟩
abbrev S6144x22x1 : Shape := ⟨3, ![6144, 22, 1]⟩
abbrev S6144x2816 : Shape := ⟨2, ![6144, 2816]⟩
abbrev S22x6144 : Shape := ⟨2, ![22, 6144]⟩
abbrev S22x6144x1 : Shape := ⟨3, ![22, 6144, 1]⟩
abbrev S28x128x22 : Shape := ⟨3, ![28, 128, 22]⟩
abbrev S3584x22 : Shape := ⟨2, ![3584, 22]⟩
abbrev S22x3584 : Shape := ⟨2, ![22, 3584]⟩
abbrev S22x1x3584 : Shape := ⟨3, ![22, 1, 3584]⟩
abbrev S6144x3584 : Shape := ⟨2, ![6144, 3584]⟩
abbrev S3584x22x128 : Shape := ⟨3, ![3584, 22, 128]⟩
abbrev S22x6144x3584 : Shape := ⟨3, ![22, 6144, 3584]⟩

abbrev nBuf : Space → Nat
  | .hbm => 54
  | .vmem => 6
  | .smem => 0
  | _ => 0

abbrev bufTy : (tb : Table) → Fin (tcTables nBuf tb) → BufTy
  | .hbm, ⟨0, _⟩ => ⟨S3x2048x2816, .bf16⟩
  | .hbm, ⟨1, _⟩ => ⟨S3584x2816, .fp8e4m3⟩
  | .hbm, ⟨2, _⟩ => ⟨S28x22, .f32⟩
  | .hbm, ⟨3, _⟩ => ⟨S6144x22x128, .bf16⟩
  | .hbm, ⟨4, _⟩ => ⟨S6144x22x128, .f32⟩
  | .hbm, ⟨5, _⟩ => ⟨S6144x22x128, .f32⟩
  | .hbm, ⟨6, _⟩ => ⟨S_, .f32⟩
  | .hbm, ⟨7, _⟩ => ⟨S6144x22, .f32⟩
  | .hbm, ⟨8, _⟩ => ⟨S_, .f32⟩
  | .hbm, ⟨9, _⟩ => ⟨S6144x22, .f32⟩
  | .hbm, ⟨10, _⟩ => ⟨S6144x22, .f32⟩
  | .hbm, ⟨11, _⟩ => ⟨S6144x22, .f32⟩
  | .hbm, ⟨12, _⟩ => ⟨S_, .f32⟩
  | .hbm, ⟨13, _⟩ => ⟨S_, .f32⟩
  | .hbm, ⟨14, _⟩ => ⟨S6144x22, .f32⟩
  | .hbm, ⟨15, _⟩ => ⟨S6144x22, .f32⟩
  | .hbm, ⟨16, _⟩ => ⟨S_, .f32⟩
  | .hbm, ⟨17, _⟩ => ⟨S6144x22, .f32⟩
  | .hbm, ⟨18, _⟩ => ⟨S6144x22, .i1⟩
  | .hbm, ⟨19, _⟩ => ⟨S6144x22, .f32⟩
  | .hbm, ⟨20, _⟩ => ⟨S_, .f32⟩
  | .hbm, ⟨21, _⟩ => ⟨S6144x22, .f32⟩
  | .hbm, ⟨22, _⟩ => ⟨S6144x22, .f32⟩
  | .hbm, ⟨23, _⟩ => ⟨S_, .f32⟩
  | .hbm, ⟨24, _⟩ => ⟨S_, .f32⟩
  | .hbm, ⟨25, _⟩ => ⟨S6144x22, .f32⟩
  | .hbm, ⟨26, _⟩ => ⟨S6144x22, .f32⟩
  | .hbm, ⟨27, _⟩ => ⟨S_, .f32⟩
  | .hbm, ⟨28, _⟩ => ⟨S6144x22, .f32⟩
  | .hbm, ⟨29, _⟩ => ⟨S6144x22, .f32⟩
  | .hbm, ⟨30, _⟩ => ⟨S6144x22, .f32⟩
  | .hbm, ⟨31, _⟩ => ⟨S_, .f32⟩
  | .hbm, ⟨32, _⟩ => ⟨S6144x22, .f32⟩
  | .hbm, ⟨33, _⟩ => ⟨S6144x22, .f32⟩
  | .hbm, ⟨34, _⟩ => ⟨S6144x22x1, .f32⟩
  | .hbm, ⟨35, _⟩ => ⟨S6144x22x128, .f32⟩
  | .hbm, ⟨36, _⟩ => ⟨S6144x22x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S6144x22x128, .f32⟩
  | .hbm, ⟨41, _⟩ => ⟨S6144x22x128, .f32⟩
  | .hbm, ⟨42, _⟩ => ⟨S_, .f32⟩
  | .hbm, ⟨43, _⟩ => ⟨S6144x22x128, .f32⟩
  | .hbm, ⟨44, _⟩ => ⟨S6144x22x128, .f32⟩
  | .hbm, ⟨45, _⟩ => ⟨S6144x2816, .f32⟩
  | .hbm, ⟨46, _⟩ => ⟨S22x6144, .f32⟩
  | .hbm, ⟨47, _⟩ => ⟨S22x6144x1, .f32⟩
  | .hbm, ⟨48, _⟩ => ⟨S28x128x22, .f32⟩
  | .hbm, ⟨49, _⟩ => ⟨S3584x22, .f32⟩
  | .hbm, ⟨50, _⟩ => ⟨S22x3584, .f32⟩
  | .hbm, ⟨51, _⟩ => ⟨S22x1x3584, .f32⟩
  | .hbm, ⟨52, _⟩ => ⟨S6144x3584, .bf16⟩
  | .hbm, ⟨53, _⟩ => ⟨S6144x2816, .fp8e4m3⟩
  | .local _ .vmem, ⟨0, _⟩ => ⟨S6144x2816, .f32⟩
  | .local _ .vmem, ⟨1, _⟩ => ⟨S3584x2816, .fp8e4m3⟩
  | .local _ .vmem, ⟨2, _⟩ => ⟨S22x6144x1, .f32⟩
  | .local _ .vmem, ⟨3, _⟩ => ⟨S22x1x3584, .f32⟩
  | .local _ .vmem, ⟨4, _⟩ => ⟨S6144x3584, .bf16⟩
  | .local _ .vmem, ⟨5, _⟩ => ⟨S6144x2816, .fp8e4m3⟩
  | _, _ => ⟨S3x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S22x6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x2816 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Trip.lean ====
module

public import proofs.«01_k».proof.Proof.Gen.KernelIdeal.Frame
public import proofs.«01_k».proof.Proof.Gen.KernelIdeal.Loops

/-! # What one trip of the quantising loop stores

One trip quantises 256 rows, group of 128 columns by group. The printed text cuts the 22 groups at arbitrary places, so
each group is spelt with other intermediate values; here every group's stores are restated over the same three functions
of the 256 × 128 block it reads: the codes, the codes transposed, the scales. -/

@[expose] public section

set_option maxRecDepth 16384

noncomputable section

namespace Cert.KernelIdeal.Hand

open Idealize.ShloMosaic Idealize.ShloMosaic.TcCoe Idealize.ShloMosaic.Tactic Cert.KernelIdeal.Gen

variable {F : FTy → Type} [FloatOps F]

/-- The scales of the 256 rows of a block. -/
def qScale (v : Vec F S256x128 .bf16) : FVec F S256x1 .f32 :=
  k0_pay8 (k0_pay2 v) (k0_pay3 v) (k0_pay4 v) (k0_pay5 v)

/-- The codes of a block before their cast to fp8. -/
def qClip (v : Vec F S256x128 .bf16) : FVec F S256x128 .bf16 :=
  k0_pay10 (k0_pay9 (k0_pay1 v) (k0_pay2 v) (k0_pay3 v) (k0_pay4 v) (k0_pay5 v)) (Scalar.ofBits .f32 0xC3E00000#32)

/-- The codes of a block. -/
def qCode (v : Vec F S256x128 .bf16) : FVec F S256x128 .fp8e4m3 := truncf .fp8e4m3 (qClip v) bitsLt_fp8e4m3_bf16

/-- The codes of a block, transposed. -/
def qCodeT (v : Vec F S256x128 .bf16) : FVec F S128x256 .fp8e4m3 :=
  shapeCast S128x256
    (truncf .fp8e4m3 (transpose S128x256 [1, 0] (qClip v) transposes_S256x128_p1_0_S128x256) bitsLt_fp8e4m3_bf16)
    shapeCasts_S128x256_S128x256

/-- The scales of 22 blocks side by side. -/
def qScales (b : Fin 22 → Vec F S256x128 .bf16) : FVec F S256x22 .f32 :=
  concatenate S256x22 1 [⟨S256x1, qScale (b 0)⟩, ⟨S256x1, qScale (b 1)⟩, ⟨S256x1, qScale (b 2)⟩, ⟨S256x1, qScale (b 3)⟩,
    ⟨S256x1, qScale (b 4)⟩, ⟨S256x1, qScale (b 5)⟩, ⟨S256x1, qScale (b 6)⟩, ⟨S256x1, qScale (b 7)⟩,
    ⟨S256x1, qScale (b 8)⟩, ⟨S256x1, qScale (b 9)⟩, ⟨S256x1, qScale (b 10)⟩, ⟨S256x1, qScale (b 11)⟩,
    ⟨S256x1, qScale (b 12)⟩, ⟨S256x1, qScale (b 13)⟩, ⟨S256x1, qScale (b 14)⟩, ⟨S256x1, qScale (b 15)⟩,
    ⟨S256x1, qScale (b 16)⟩, ⟨S256x1, qScale (b 17)⟩, ⟨S256x1, qScale (b 18)⟩, ⟨S256x1, qScale (b 19)⟩,
    ⟨S256x1, qScale (b 20)⟩, ⟨S256x1, qScale (b 21)⟩] concatenates_S256x1_S256x1_S256x1_S256x1_S256x1_S256x1_S256x1_S256x1_S256x1_S256x1_S256x1_S256x1_S256x1_S256x1_S256x1_S256x1_S256x1_S256x1_S256x1_S256x1_S256x1_S256x1_S256x22_d1

/-- Where a trip reads its 22 blocks. -/
def rdOff (k : Fin k0_t1_loop.trips) : Fin 22 → Fin 2 → ℕ := ![k0_off1 k, k0_off3 k, k0_off5 k, k0_off7 k, k0_off9 k, k0_off11 k, k0_off13 k, k0_off15 k, k0_off17 k, k0_off19 k, k0_off21 k, k0_off23 k, k0_off25 k, k0_off27 k, k0_off29 k, k0_off31 k, k0_off33 k, k0_off35 k, k0_off37 k, k0_off39 k, k0_off41 k, k0_off43 k]

theorem rdOff_eq (k : Fin k0_t1_loop.trips) (g : Fin 22) : rdOff k g 0 = 256 * k.val ∧ rdOff k g 1 = 128 * g.val := by
  revert k g; decide

theorem rdOff_inb (k : Fin k0_t1_loop.trips) (g : Fin 22) : ∀ a, rdOff k g a + S256x128.size a ≤ S1024x2816.size a := by
  revert k g; decide

/-- Where a trip writes its 22 blocks of transposed codes. -/
def wrOff (k : Fin k0_t1_loop.trips) : Fin 22 → Fin 2 → ℕ := ![k0_off2 k, k0_off4 k, k0_off6 k, k0_off8 k, k0_off10 k, k0_off12 k, k0_off14 k, k0_off16 k, k0_off18 k, k0_off20 k, k0_off22 k, k0_off24 k, k0_off26 k, k0_off28 k, k0_off30 k, k0_off32 k, k0_off34 k, k0_off36 k, k0_off38 k, k0_off40 k, k0_off42 k, k0_off44 k]

theorem wrOff_eq (k : Fin k0_t1_loop.trips) (g : Fin 22) : wrOff k g 0 = 128 * g.val ∧ wrOff k g 1 = 256 * k.val := by
  revert k g; decide

theorem wrOff_inb (k : Fin k0_t1_loop.trips) (g : Fin 22) : ∀ a, wrOff k g a + S128x256.size a ≤ S2816x1024.size a := by
  revert k g; decide

theorem trip_codes (𝒱 : Variants) (c : Dev nD) (bd : Option 𝒱.V) (i : grid0.Coords) (arg2 : Memref sig .tc .vmem S1024x2816 .bf16) (harg2 : arg2.IsWhole) (arg3 : Memref sig .tc .vmem S512x2816 .fp8e4m3) (harg3 : arg3.IsWhole) (arg4 : Memref sig .tc .vmem S96x1 .f32) (harg4 : arg4.IsWhole) (arg5 : Memref sig .tc .vmem S1024x512 .bf16) (harg5 : arg5.IsWhole) (arg6 : Memref sig .tc .vmem S1024x2816 .fp8e4m3) (harg6 : arg6.IsWhole) (arg7 : Memref sig .tc .vmem S1024x22 .f32) (harg7 : arg7.IsWhole) (arg8 : Memref sig .tc .vmem S2816x1024 .fp8e4m3) (harg8 : arg8.IsWhole) (arg9 : Memref sig .tc .vmem S24x1024 .f32) (harg9 : arg9.IsWhole) (arg10 : Memref sig .tc .vmem S96x1024 .f32) (harg10 : arg10.IsWhole) (k0_h1 : k0_cond1 i = 1#1) (X : BufTy.Contents (Elt F) arg2.view.ty) (k : Fin k0_t1_loop.trips) :
   (trip_k0_t1 (F := F) 𝒱 c bd i arg2 harg2 arg3 harg3 arg4 harg4 arg5 harg5 arg6 harg6 arg7 harg7 arg8 harg8 arg9 harg9 arg10 harg10 k0_h1 X k).1
     = List.ofFn fun g : Fin 22 => (⟨Rect.unit (s := S1024x2816) (rdOff k g.rev) S256x128.size (rdOff_inb k g.rev), qCode (arg2.view.readAt (Elt F) (Rect.unit (s := S1024x2816) (rdOff k g.rev) S256x128.size (rdOff_inb k g.rev)).toLoadRect X)⟩ : View.Piece (Elt F) S1024x2816 .fp8e4m3) := by
  unfold trip_k0_t1
  rfl

theorem trip_codesT (𝒱 : Variants) (c : Dev nD) (bd : Option 𝒱.V) (i : grid0.Coords) (arg2 : Memref sig .tc .vmem S1024x2816 .bf16) (harg2 : arg2.IsWhole) (arg3 : Memref sig .tc .vmem S512x2816 .fp8e4m3) (harg3 : arg3.IsWhole) (arg4 : Memref sig .tc .vmem S96x1 .f32) (harg4 : arg4.IsWhole) (arg5 : Memref sig .tc .vmem S1024x512 .bf16) (harg5 : arg5.IsWhole) (arg6 : Memref sig .tc .vmem S1024x2816 .fp8e4m3) (harg6 : arg6.IsWhole) (arg7 : Memref sig .tc .vmem S1024x22 .f32) (harg7 : arg7.IsWhole) (arg8 : Memref sig .tc .vmem S2816x1024 .fp8e4m3) (harg8 : arg8.IsWhole) (arg9 : Memref sig .tc .vmem S24x1024 .f32) (harg9 : arg9.IsWhole) (arg10 : Memref sig .tc .vmem S96x1024 .f32) (harg10 : arg10.IsWhole) (k0_h1 : k0_cond1 i = 1#1) (X : BufTy.Contents (Elt F) arg2.view.ty) (k : Fin k0_t1_loop.trips) :
   (trip_k0_t1 (F := F) 𝒱 c bd i arg2 harg2 arg3 harg3 arg4 harg4 arg5 harg5 arg6 harg6 arg7 harg7 arg8 harg8 arg9 harg9 arg10 harg10 k0_h1 X k).2.2.1
     = List.ofFn fun g : Fin 22 => (⟨Rect.unit (s := S2816x1024) (wrOff k g.rev) S128x256.size (wrOff_inb k g.rev), qCodeT (arg2.view.readAt (Elt F) (Rect.unit (s := S1024x2816) (rdOff k g.rev) S256x128.size (rdOff_inb k g.rev)).toLoadRect X)⟩ : View.Piece (Elt F) S2816x1024 .fp8e4m3) := by
  unfold trip_k0_t1
  rfl

theorem trip_scales (𝒱 : Variants) (c : Dev nD) (bd : Option 𝒱.V) (i : grid0.Coords) (arg2 : Memref sig .tc .vmem S1024x2816 .bf16) (harg2 : arg2.IsWhole) (arg3 : Memref sig .tc .vmem S512x2816 .fp8e4m3) (harg3 : arg3.IsWhole) (arg4 : Memref sig .tc .vmem S96x1 .f32) (harg4 : arg4.IsWhole) (arg5 : Memref sig .tc .vmem S1024x512 .bf16) (harg5 : arg5.IsWhole) (arg6 : Memref sig .tc .vmem S1024x2816 .fp8e4m3) (harg6 : arg6.IsWhole) (arg7 : Memref sig .tc .vmem S1024x22 .f32) (harg7 : arg7.IsWhole) (arg8 : Memref sig .tc .vmem S2816x1024 .fp8e4m3) (harg8 : arg8.IsWhole) (arg9 : Memref sig .tc .vmem S24x1024 .f32) (harg9 : arg9.IsWhole) (arg10 : Memref sig .tc .vmem S96x1024 .f32) (harg10 : arg10.IsWhole) (k0_h1 : k0_cond1 i = 1#1) (X : BufTy.Contents (Elt F) arg2.view.ty) (k : Fin k0_t1_loop.trips) :
   (trip_k0_t1 (F := F) 𝒱 c bd i arg2 harg2 arg3 harg3 arg4 harg4 arg5 harg5 arg6 harg6 arg7 harg7 arg8 harg8 arg9 harg9 arg10 harg10 k0_h1 X k).2.1
     = [⟨Rect.unit (s := S1024x22) (k0_off45 k) S256x22.size (k0_off45_inb i k k0_h1), qScales fun g => arg2.view.readAt (Elt F) (Rect.unit (s := S1024x2816) (rdOff k g) S256x128.size (rdOff_inb k g)).toLoadRect X⟩] := by
  unfold trip_k0_t1
  rfl

theorem trip_scalesT (𝒱 : Variants) (c : Dev nD) (bd : Option 𝒱.V) (i : grid0.Coords) (arg2 : Memref sig .tc .vmem S1024x2816 .bf16) (harg2 : arg2.IsWhole) (arg3 : Memref sig .tc .vmem S512x2816 .fp8e4m3) (harg3 : arg3.IsWhole) (arg4 : Memref sig .tc .vmem S96x1 .f32) (harg4 : arg4.IsWhole) (arg5 : Memref sig .tc .vmem S1024x512 .bf16) (harg5 : arg5.IsWhole) (arg6 : Memref sig .tc .vmem S1024x2816 .fp8e4m3) (harg6 : arg6.IsWhole) (arg7 : Memref sig .tc .vmem S1024x22 .f32) (harg7 : arg7.IsWhole) (arg8 : Memref sig .tc .vmem S2816x1024 .fp8e4m3) (harg8 : arg8.IsWhole) (arg9 : Memref sig .tc .vmem S24x1024 .f32) (harg9 : arg9.IsWhole) (arg10 : Memref sig .tc .vmem S96x1024 .f32) (harg10 : arg10.IsWhole) (k0_h1 : k0_cond1 i = 1#1) (X : BufTy.Contents (Elt F) arg2.view.ty) (k : Fin k0_t1_loop.trips) :
   (trip_k0_t1 (F := F) 𝒱 c bd i arg2 harg2 arg3 harg3 arg4 harg4 arg5 harg5 arg6 harg6 arg7 harg7 arg8 harg8 arg9 harg9 arg10 harg10 k0_h1 X k).2.2.2.1
     = [⟨Rect.unit (s := S24x1024) (k0_off46 k) S24x256.size (k0_off46_inb i k k0_h1), k0_pay253 (qScales fun g => arg2.view.readAt (Elt F) (Rect.unit (s := S1024x2816) (rdOff k g) S256x128.size (rdOff_inb k g)).toLoadRect X)⟩] := by
  unfold trip_k0_t1
  rfl

end Cert.KernelIdeal.Hand
end
-- ==== Proof.Loop.lean ====
module

public import proofs.«01_k».proof.Proof.Trip
public import Idealize.ShloMosaic.Lib.Pointwise

/-! # What the quantising loop leaves

After its four trips the loop has filled the codes, the transposed codes, the scales and the transposed scales, each
with one function of the block of `x`. -/

@[expose] public section

set_option maxRecDepth 16384

noncomputable section

namespace Cert.KernelIdeal.Hand

open Idealize.ShloMosaic Idealize.ShloMosaic.TcCoe Idealize.ShloMosaic.Tactic Cert.KernelIdeal.Gen
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `256 k …` and columns `128 g …` of a block of `x`. -/
def sub (x : Vec F S1024x2816 .bf16) (k g : ℕ) (hk : k < 4) (hg : g < 22) : Vec F S256x128 .bf16 := fun j =>
  x (ix2 ⟨256 * k + (j 0).val, by have : (j 0).val < 256 := (j 0).isLt; omega⟩
    ⟨128 * g + (j 1).val, by have : (j 1).val < 128 := (j 1).isLt; omega⟩)

theorem sub_congr (x : Vec F S1024x2816 .bf16) {k g k' g' : ℕ} (hk : k < 4) (hg : g < 22) (hk' : k' < 4) (hg' : g' < 22)
    (h1 : k = k') (h2 : g = g') : sub x k g hk hg = sub x k' g' hk' hg' := by
  subst h1; subst h2; rfl

/-- The codes of a block of `x`. -/
def codesOf (x : Vec F S1024x2816 .bf16) : Vec F S1024x2816 .fp8e4m3 := fun y =>
  qCode (sub x ((y 0).val / 256) ((y 1).val / 128) (by have : (y 0).val < 1024 := (y 0).isLt; omega) (by have : (y 1).val < 2816 := (y 1).isLt; omega))
    (ix2 ⟨(y 0).val % 256, Nat.mod_lt _ (by norm_num)⟩ ⟨(y 1).val % 128, Nat.mod_lt _ (by norm_num)⟩)

/-- The codes of a block of `x`, transposed. -/
def codesTOf (x : Vec F S1024x2816 .bf16) : Vec F S2816x1024 .fp8e4m3 := fun y =>
  qCodeT (sub x ((y 1).val / 256) ((y 0).val / 128) (by have : (y 1).val < 1024 := (y 1).isLt; omega) (by have : (y 0).val < 2816 := (y 0).isLt; omega))
    (ix2 ⟨(y 0).val % 128, Nat.mod_lt _ (by norm_num)⟩ ⟨(y 1).val % 256, Nat.mod_lt _ (by norm_num)⟩)

/-- The scales of a block of `x`. -/
def scalesOf (x : Vec F S1024x2816 .bf16) : Vec F S1024x22 .f32 := fun y =>
  qScales (fun g => sub x ((y 0).val / 256) g.val (by have : (y 0).val < 1024 := (y 0).isLt; omega) g.isLt)
    (ix2 ⟨(y 0).val % 256, Nat.mod_lt _ (by norm_num)⟩ (y 1))

/-- The scales of a block of `x`, transposed and padded with ones to 24 rows. -/
def scalesTOf (x : Vec F S1024x2816 .bf16) : Vec F S24x1024 .f32 := fun y =>
  k0_pay253 (qScales (fun g => sub x ((y 1).val / 256) g.val (by have : (y 1).val < 1024 := (y 1).isLt; omega) g.isLt))
    (ix2 (y 0) ⟨(y 1).val % 256, Nat.mod_lt _ (by norm_num)⟩)

theorem codesOf_at (x : Vec F S1024x2816 .bf16) (y : S1024x2816.Idx) (k g : ℕ) (hk : k < 4) (hg : g < 22) (j : S256x128.Idx)
    (h0 : (y 0).val = 256 * k + (j 0).val) (h1 : (y 1).val = 128 * g + (j 1).val) :
    codesOf x y = qCode (sub x k g hk hg) j := by
  have hx0 : (j 0).val < 256 := (j 0).isLt
  have hx1 : (j 1).val < 128 := (j 1).isLt
  refine congr (congrArg qCode (sub_congr _ _ _ _ _ (by omega) (by omega))) (funext fun a => Fin.ext ?_)
  match a with
  | ⟨0, _⟩ => show (y 0).val % 256 = (j 0).val; omega
  | ⟨1, _⟩ => show (y 1).val % 128 = (j 1).val; omega

theorem codesTOf_at (x : Vec F S1024x2816 .bf16) (y : S2816x1024.Idx) (k g : ℕ) (hk : k < 4) (hg : g < 22) (j : S128x256.Idx)
    (h0 : (y 0).val = 128 * g + (j 0).val) (h1 : (y 1).val = 256 * k + (j 1).val) :
    codesTOf x y = qCodeT (sub x k g hk hg) j := by
  have hx0 : (j 0).val < 128 := (j 0).isLt
  have hx1 : (j 1).val < 256 := (j 1).isLt
  refine congr (congrArg qCodeT (sub_congr _ _ _ _ _ (by omega) (by omega))) (funext fun a => Fin.ext ?_)
  match a with
  | ⟨0, _⟩ => show (y 0).val % 128 = (j 0).val; omega
  | ⟨1, _⟩ => show (y 1).val % 256 = (j 1).val; omega

theorem scalesOf_at (x : Vec F S1024x2816 .bf16) (y : S1024x22.Idx) (k : ℕ) (hk : k < 4) (j : S256x22.Idx)
    (h0 : (y 0).val = 256 * k + (j 0).val) (h1 : (y 1).val = (j 1).val) :
    scalesOf x y = qScales (fun g => sub x k g.val hk g.isLt) j := by
  have hx0 : (j 0).val < 256 := (j 0).isLt
  refine congr (congrArg qScales (funext fun g => sub_congr _ _ _ _ _ (by omega) rfl)) (funext fun a => Fin.ext ?_)
  match a with
  | ⟨0, _⟩ => show (y 0).val % 256 = (j 0).val; omega
  | ⟨1, _⟩ => exact h1

theorem scalesTOf_at (x : Vec F S1024x2816 .bf16) (y : S24x1024.Idx) (k : ℕ) (hk : k < 4) (j : S24x256.Idx)
    (h0 : (y 0).val = (j 0).val) (h1 : (y 1).val = 256 * k + (j 1).val) :
    scalesTOf x y = k0_pay253 (qScales (fun g => sub x k g.val hk g.isLt)) j := by
  have hx1 : (j 1).val < 256 := (j 1).isLt
  refine congr (congrArg (fun b => k0_pay253 (qScales b)) (funext fun g => sub_congr _ _ _ _ _ (by omega) rfl)) (funext fun a => Fin.ext ?_)
  match a with
  | ⟨0, _⟩ => exact h0
  | ⟨1, _⟩ => show (y 1).val % 256 = (j 1).val; omega

theorem trips_eq (k : Fin k0_t1_loop.trips) : k.val < 4 := k.isLt

/-- What a trip loads of a block. -/
theorem readAt_eq {arg2 : Memref sig .tc .vmem S1024x2816 .bf16} (X : BufTy.Contents (Elt F) arg2.view.ty)
    (k : Fin k0_t1_loop.trips) (g : Fin 22) :
    arg2.view.readAt (Elt F) (Rect.unit (s := S1024x2816) (rdOff k g) S256x128.size (rdOff_inb k g)).toLoadRect X
      = sub (arg2.view.read (Elt F) X) k.val g.val (trips_eq k) g.isLt := by
  funext j
  rw [View.readAt_apply]
  refine congrArg _ (funext fun a => Fin.ext ?_)
  obtain ⟨h0, h1⟩ := rdOff_eq k g
  match a with
  | ⟨0, _⟩ => show rdOff k g 0 + 1 * (j 0).val = _; rw [h0, one_mul]; rfl
  | ⟨1, _⟩ => show rdOff k g 1 + 1 * (j 1).val = _; rw [h1, one_mul]; rfl

section
variable (𝒱 : Variants) (c : Dev nD) (bd : Option 𝒱.V) (E : Set ℕ) (i : grid0.Coords)
  (arg2 : Memref sig .tc .vmem S1024x2816 .bf16) (harg2 : arg2.IsWhole)
  (arg3 : Memref sig .tc .vmem S512x2816 .fp8e4m3) (harg3 : arg3.IsWhole)
  (arg4 : Memref sig .tc .vmem S96x1 .f32) (harg4 : arg4.IsWhole)
  (arg5 : Memref sig .tc .vmem S1024x512 .bf16) (harg5 : arg5.IsWhole)
  (arg6 : Memref sig .tc .vmem S1024x2816 .fp8e4m3) (harg6 : arg6.IsWhole)
  (arg7 : Memref sig .tc .vmem S1024x22 .f32) (harg7 : arg7.IsWhole)
  (arg8 : Memref sig .tc .vmem S2816x1024 .fp8e4m3) (harg8 : arg8.IsWhole)
  (arg9 : Memref sig .tc .vmem S24x1024 .f32) (harg9 : arg9.IsWhole)
  (arg10 : Memref sig .tc .vmem S96x1024 .f32) (harg10 : arg10.IsWhole)
  (k0_h1 : k0_cond1 i = 1#1) (X : BufTy.Contents (Elt F) arg2.view.ty)

theorem mem_pb (n : ℕ) (hn : n ≤ 4) :
    (∀ p, p ∈ (pb_k0_t1 (F := F) 𝒱 c bd i arg2 harg2 arg3 harg3 arg4 harg4 arg5 harg5 arg6 harg6 arg7 harg7 arg8 harg8 arg9 harg9 arg10 harg10 k0_h1 X n).1 ↔ ∃ k : Fin k0_t1_loop.trips, k.val < n ∧ p ∈ (trip_k0_t1 (F := F) 𝒱 c bd i arg2 harg2 arg3 harg3 arg4 harg4 arg5 harg5 arg6 harg6 arg7 harg7 arg8 harg8 arg9 harg9 arg10 harg10 k0_h1 X k).1)
    ∧ (∀ p, p ∈ (pb_k0_t1 (F := F) 𝒱 c bd i arg2 harg2 arg3 harg3 arg4 harg4 arg5 harg5 arg6 harg6 arg7 harg7 arg8 harg8 arg9 harg9 arg10 harg10 k0_h1 X n).2.1 ↔ ∃ k : Fin k0_t1_loop.trips, k.val < n ∧ p ∈ (trip_k0_t1 (F := F) 𝒱 c bd i arg2 harg2 arg3 harg3 arg4 harg4 arg5 harg5 arg6 harg6 arg7 harg7 arg8 harg8 arg9 harg9 arg10 harg10 k0_h1 X k).2.1)
    ∧ (∀ p, p ∈ (pb_k0_t1 (F := F) 𝒱 c bd i arg2 harg2 arg3 harg3 arg4 harg4 arg5 harg5 arg6 harg6 arg7 harg7 arg8 harg8 arg9 harg9 arg10 harg10 k0_h1 X n).2.2.1 ↔ ∃ k : Fin k0_t1_loop.trips, k.val < n ∧ p ∈ (trip_k0_t1 (F := F) 𝒱 c bd i arg2 harg2 arg3 harg3 arg4 harg4 arg5 harg5 arg6 harg6 arg7 harg7 arg8 harg8 arg9 harg9 arg10 harg10 k0_h1 X k).2.2.1)
    ∧ (∀ p, p ∈ (pb_k0_t1 (F := F) 𝒱 c bd i arg2 harg2 arg3 harg3 arg4 harg4 arg5 harg5 arg6 harg6 arg7 harg7 arg8 harg8 arg9 harg9 arg10 harg10 k0_h1 X n).2.2.2 ↔ ∃ k : Fin k0_t1_loop.trips, k.val < n ∧ p ∈ (trip_k0_t1 (F := F) 𝒱 c bd i arg2 harg2 arg3 harg3 arg4 harg4 arg5 harg5 arg6 harg6 arg7 harg7 arg8 harg8 arg9 harg9 arg10 harg10 k0_h1 X k).2.2.2.1) := by
  induction n with
  | zero => simp [pb_k0_t1]
  | succ n ih =>
    obtain ⟨h1, h2, h3, h4⟩ := ih (by omega)
    have hs := pb_k0_t1_succ (F := F) 𝒱 c bd i arg2 harg2 arg3 harg3 arg4 harg4 arg5 harg5 arg6 harg6 arg7 harg7 arg8 harg8 arg9 harg9 arg10 harg10 k0_h1 X (⟨n, hn⟩ : Fin k0_t1_loop.trips)
    simp only at hs
    rw [hs]
    have key : ∀ {α : Type} (T : Fin k0_t1_loop.trips → List α) (P : List α)
        (h : ∀ p, p ∈ P ↔ ∃ k : Fin k0_t1_loop.trips, k.val < n ∧ p ∈ T k),
        ∀ p, p ∈ T ⟨n, hn⟩ ++ P ↔ ∃ k : Fin k0_t1_loop.trips, k.val < n + 1 ∧ p ∈ T k := by
      intro α T P h p
      rw [List.mem_append, h]
      constructor
      · rintro (hp | ⟨k, hk, hp⟩)
        · exact ⟨_, Nat.lt_succ_self _, hp⟩
        · exact ⟨k, by omega, hp⟩
      · rintro ⟨k, hk, hp⟩
        rcases Nat.lt_succ_iff_lt_or_eq.1 hk with h' | h'
        · exact .inr ⟨k, h', hp⟩
        · refine .inl ?_
          rwa [show (⟨n, hn⟩ : Fin k0_t1_loop.trips) = k from Fin.ext h'.symm]
    exact ⟨key (fun k => (trip_k0_t1 (F := F) 𝒱 c bd i arg2 harg2 arg3 harg3 arg4 harg4 arg5 harg5 arg6 harg6 arg7 harg7 arg8 harg8 arg9 harg9 arg10 harg10 k0_h1 X k).1) _ h1, key (fun k => (trip_k0_t1 (F := F) 𝒱 c bd i arg2 harg2 arg3 harg3 arg4 harg4 arg5 harg5 arg6 harg6 arg7 harg7 arg8 harg8 arg9 harg9 arg10 harg10 k0_h1 X k).2.1) _ h2,
      key (fun k => (trip_k0_t1 (F := F) 𝒱 c bd i arg2 harg2 arg3 harg3 arg4 harg4 arg5 harg5 arg6 harg6 arg7 harg7 arg8 harg8 arg9 harg9 arg10 harg10 k0_h1 X k).2.2.1) _ h3, key (fun k => (trip_k0_t1 (F := F) 𝒱 c bd i arg2 harg2 arg3 harg3 arg4 harg4 arg5 harg5 arg6 harg6 arg7 harg7 arg8 harg8 arg9 harg9 arg10 harg10 k0_h1 X k).2.2.2.1) _ h4⟩

theorem loop_codes (G : BufTy.Contents (Elt F) arg6.view.ty) :
    arg6.view.read (Elt F) (arg6.view.writes (Elt F) G (pb_k0_t1 (F := F) 𝒱 c bd i arg2 harg2 arg3 harg3 arg4 harg4 arg5 harg5 arg6 harg6 arg7 harg7 arg8 harg8 arg9 harg9 arg10 harg10 k0_h1 X 4).1) = codesOf (arg2.view.read (Elt F) X) := by
  have hm := (mem_pb (F := F) 𝒱 c bd i arg2 harg2 arg3 harg3 arg4 harg4 arg5 harg5 arg6 harg6 arg7 harg7 arg8 harg8 arg9 harg9 arg10 harg10 k0_h1 X 4 le_rfl).1
  funext y
  have hy0 : (y 0).val < 1024 := (y 0).isLt
  have hy1 : (y 1).val < 2816 := (y 1).isLt
  refine View.read_writes_apply_of_pieces _ _ _ _ ?_ y ?_
  · intro p hp x
    obtain ⟨k, -, hp⟩ := (hm p).1 hp
    rw [trip_codes, List.mem_ofFn] at hp
    obtain ⟨g, rfl⟩ := hp
    have hx0 : (x 0).val < 256 := (x 0).isLt
    have hx1 : (x 1).val < 128 := (x 1).isLt
    obtain ⟨h0, h1⟩ := rdOff_eq k g.rev
    show qCode _ x = codesOf _ ((Rect.unit (s := S1024x2816) (rdOff k g.rev) S256x128.size (rdOff_inb k g.rev)).emb x)
    have e0 : ((Rect.unit (s := S1024x2816) (rdOff k g.rev) S256x128.size (rdOff_inb k g.rev)).emb x 0).val = 256 * k.val + (x 0).val := by
      show rdOff k g.rev 0 + 1 * (x 0).val = _; rw [h0, one_mul]
    have e1 : ((Rect.unit (s := S1024x2816) (rdOff k g.rev) S256x128.size (rdOff_inb k g.rev)).emb x 1).val = 128 * g.rev.val + (x 1).val := by
      show rdOff k g.rev 1 + 1 * (x 1).val = _; rw [h1, one_mul]
    rw [readAt_eq]
    exact (codesOf_at _ _ _ _ _ _ x e0 e1).symm
  · obtain ⟨k, hk⟩ : ∃ k : Fin k0_t1_loop.trips, k.val = (y 0).val / 256 := ⟨⟨(y 0).val / 256, (show (y 0).val / 256 < 4 by omega)⟩, rfl⟩
    obtain ⟨g, hg⟩ : ∃ g : Fin 22, g.val = (y 1).val / 128 := ⟨⟨(y 1).val / 128, by omega⟩, rfl⟩
    refine ⟨⟨Rect.unit (s := S1024x2816) (rdOff k g) S256x128.size (rdOff_inb k g), qCode (arg2.view.readAt (Elt F) (Rect.unit (s := S1024x2816) (rdOff k g) S256x128.size (rdOff_inb k g)).toLoadRect X)⟩, (hm _).2 ⟨k, k.isLt, ?_⟩, ?_⟩
    · rw [trip_codes, List.mem_ofFn]
      exact ⟨g.rev, congrArg (fun g' : Fin 22 => (⟨Rect.unit (s := S1024x2816) (rdOff k g') S256x128.size (rdOff_inb k g'), qCode (arg2.view.readAt (Elt F) (Rect.unit (s := S1024x2816) (rdOff k g') S256x128.size (rdOff_inb k g')).toLoadRect X)⟩ : View.Piece (Elt F) S1024x2816 .fp8e4m3)) (Fin.rev_rev g)⟩
    · obtain ⟨h0, h1⟩ := rdOff_eq k g
      show y ∈ (Rect.unit (s := S1024x2816) (rdOff k g) S256x128.size (rdOff_inb k g)).set
      refine (Rect.mem_set_unit (inb := rdOff_inb k g)).2 fun a => ?_
      match a with
      | ⟨0, _⟩ => exact ⟨by show rdOff k g 0 ≤ (y 0).val; rw [h0]; omega, by show (y 0).val < rdOff k g 0 + 256; rw [h0]; omega⟩
      | ⟨1, _⟩ => exact ⟨by show rdOff k g 1 ≤ (y 1).val; rw [h1]; omega, by show (y 1).val < rdOff k g 1 + 128; rw [h1]; omega⟩

theorem loop_codesT (G : BufTy.Contents (Elt F) arg8.view.ty) :
    arg8.view.read (Elt F) (arg8.view.writes (Elt F) G (pb_k0_t1 (F := F) 𝒱 c bd i arg2 harg2 arg3 harg3 arg4 harg4 arg5 harg5 arg6 harg6 arg7 harg7 arg8 harg8 arg9 harg9 arg10 harg10 k0_h1 X 4).2.2.1) = codesTOf (arg2.view.read (Elt F) X) := by
  have hm := (mem_pb (F := F) 𝒱 c bd i arg2 harg2 arg3 harg3 arg4 harg4 arg5 harg5 arg6 harg6 arg7 harg7 arg8 harg8 arg9 harg9 arg10 harg10 k0_h1 X 4 le_rfl).2.2.1
  funext y
  have hy0 : (y 0).val < 2816 := (y 0).isLt
  have hy1 : (y 1).val < 1024 := (y 1).isLt
  refine View.read_writes_apply_of_pieces _ _ _ _ ?_ y ?_
  · intro p hp x
    obtain ⟨k, -, hp⟩ := (hm p).1 hp
    rw [trip_codesT, List.mem_ofFn] at hp
    obtain ⟨g, rfl⟩ := hp
    have hx0 : (x 0).val < 128 := (x 0).isLt
    have hx1 : (x 1).val < 256 := (x 1).isLt
    obtain ⟨h0, h1⟩ := wrOff_eq k g.rev
    show qCodeT _ x = codesTOf _ ((Rect.unit (s := S2816x1024) (wrOff k g.rev) S128x256.size (wrOff_inb k g.rev)).emb x)
    have e0 : ((Rect.unit (s := S2816x1024) (wrOff k g.rev) S128x256.size (wrOff_inb k g.rev)).emb x 0).val = 128 * g.rev.val + (x 0).val := by
      show wrOff k g.rev 0 + 1 * (x 0).val = _; rw [h0, one_mul]
    have e1 : ((Rect.unit (s := S2816x1024) (wrOff k g.rev) S128x256.size (wrOff_inb k g.rev)).emb x 1).val = 256 * k.val + (x 1).val := by
      show wrOff k g.rev 1 + 1 * (x 1).val = _; rw [h1, one_mul]
    rw [readAt_eq]
    exact (codesTOf_at _ _ _ _ _ _ x e0 e1).symm
  · obtain ⟨k, hk⟩ : ∃ k : Fin k0_t1_loop.trips, k.val = (y 1).val / 256 := ⟨⟨(y 1).val / 256, (show (y 1).val / 256 < 4 by omega)⟩, rfl⟩
    obtain ⟨g, hg⟩ : ∃ g : Fin 22, g.val = (y 0).val / 128 := ⟨⟨(y 0).val / 128, by omega⟩, rfl⟩
    refine ⟨⟨Rect.unit (s := S2816x1024) (wrOff k g) S128x256.size (wrOff_inb k g), qCodeT (arg2.view.readAt (Elt F) (Rect.unit (s := S1024x2816) (rdOff k g) S256x128.size (rdOff_inb k g)).toLoadRect X)⟩, (hm _).2 ⟨k, k.isLt, ?_⟩, ?_⟩
    · rw [trip_codesT, List.mem_ofFn]
      exact ⟨g.rev, congrArg (fun g' : Fin 22 => (⟨Rect.unit (s := S2816x1024) (wrOff k g') S128x256.size (wrOff_inb k g'), qCodeT (arg2.view.readAt (Elt F) (Rect.unit (s := S1024x2816) (rdOff k g') S256x128.size (rdOff_inb k g')).toLoadRect X)⟩ : View.Piece (Elt F) S2816x1024 .fp8e4m3)) (Fin.rev_rev g)⟩
    · obtain ⟨h0, h1⟩ := wrOff_eq k g
      show y ∈ (Rect.unit (s := S2816x1024) (wrOff k g) S128x256.size (wrOff_inb k g)).set
      refine (Rect.mem_set_unit (inb := wrOff_inb k g)).2 fun a => ?_
      match a with
      | ⟨0, _⟩ => exact ⟨by show wrOff k g 0 ≤ (y 0).val; rw [h0]; omega, by show (y 0).val < wrOff k g 0 + 128; rw [h0]; omega⟩
      | ⟨1, _⟩ => exact ⟨by show wrOff k g 1 ≤ (y 1).val; rw [h1]; omega, by show (y 1).val < wrOff k g 1 + 256; rw [h1]; omega⟩

theorem off45_eq (k : Fin k0_t1_loop.trips) : k0_off45 k 0 = 256 * k.val ∧ k0_off45 k 1 = 0 := by revert k; decide

theorem off46_eq (k : Fin k0_t1_loop.trips) : k0_off46 k 0 = 0 ∧ k0_off46 k 1 = 256 * k.val := by revert k; decide

theorem loop_scales (G : BufTy.Contents (Elt F) arg7.view.ty) :
    arg7.view.read (Elt F) (arg7.view.writes (Elt F) G (pb_k0_t1 (F := F) 𝒱 c bd i arg2 harg2 arg3 harg3 arg4 harg4 arg5 harg5 arg6 harg6 arg7 harg7 arg8 harg8 arg9 harg9 arg10 harg10 k0_h1 X 4).2.1) = scalesOf (arg2.view.read (Elt F) X) := by
  have hm := (mem_pb (F := F) 𝒱 c bd i arg2 harg2 arg3 harg3 arg4 harg4 arg5 harg5 arg6 harg6 arg7 harg7 arg8 harg8 arg9 harg9 arg10 harg10 k0_h1 X 4 le_rfl).2.1
  funext y
  have hy0 : (y 0).val < 1024 := (y 0).isLt
  have hy1 : (y 1).val < 22 := (y 1).isLt
  refine View.read_writes_apply_of_pieces _ _ _ _ ?_ y ?_
  · intro p hp x
    obtain ⟨k, -, hp⟩ := (hm p).1 hp
    rw [trip_scales, List.mem_singleton] at hp
    subst hp
    have hx0 : (x 0).val < 256 := (x 0).isLt
    obtain ⟨h0, h1⟩ := off45_eq k
    have e0 : ((Rect.unit (s := S1024x22) (k0_off45 k) S256x22.size (k0_off45_inb i k k0_h1)).emb x 0).val = 256 * k.val + (x 0).val := by
      show k0_off45 k 0 + 1 * (x 0).val = _; rw [h0, one_mul]
    have e1 : ((Rect.unit (s := S1024x22) (k0_off45 k) S256x22.size (k0_off45_inb i k k0_h1)).emb x 1).val = (x 1).val := by
      show k0_off45 k 1 + 1 * (x 1).val = _; rw [h1, one_mul, Nat.zero_add]
    exact (congrFun (congrArg qScales (funext fun g => readAt_eq X k g)) x).trans (scalesOf_at _ _ k.val (trips_eq k) x e0 e1).symm
  · obtain ⟨k, hk⟩ : ∃ k : Fin k0_t1_loop.trips, k.val = (y 0).val / 256 := ⟨⟨(y 0).val / 256, (show (y 0).val / 256 < 4 by omega)⟩, rfl⟩
    refine ⟨⟨Rect.unit (s := S1024x22) (k0_off45 k) S256x22.size (k0_off45_inb i k k0_h1), _⟩, (hm _).2 ⟨k, k.isLt, by rw [trip_scales]; exact List.mem_singleton_self _⟩, ?_⟩
    obtain ⟨h0, h1⟩ := off45_eq k
    show y ∈ (Rect.unit (s := S1024x22) (k0_off45 k) S256x22.size (k0_off45_inb i k k0_h1)).set
    refine (Rect.mem_set_unit (inb := k0_off45_inb i k k0_h1)).2 fun a => ?_
    match a with
    | ⟨0, _⟩ => exact ⟨by show k0_off45 k 0 ≤ (y 0).val; rw [h0]; omega, by show (y 0).val < k0_off45 k 0 + 256; rw [h0]; omega⟩
    | ⟨1, _⟩ => exact ⟨by show k0_off45 k 1 ≤ (y 1).val; rw [h1]; omega, by show (y 1).val < k0_off45 k 1 + 22; rw [h1]; omega⟩

theorem loop_scalesT (G : BufTy.Contents (Elt F) arg9.view.ty) :
    arg9.view.read (Elt F) (arg9.view.writes (Elt F) G (pb_k0_t1 (F := F) 𝒱 c bd i arg2 harg2 arg3 harg3 arg4 harg4 arg5 harg5 arg6 harg6 arg7 harg7 arg8 harg8 arg9 harg9 arg10 harg10 k0_h1 X 4).2.2.2) = scalesTOf (arg2.view.read (Elt F) X) := by
  have hm := (mem_pb (F := F) 𝒱 c bd i arg2 harg2 arg3 harg3 arg4 harg4 arg5 harg5 arg6 harg6 arg7 harg7 arg8 harg8 arg9 harg9 arg10 harg10 k0_h1 X 4 le_rfl).2.2.2
  funext y
  have hy0 : (y 0).val < 24 := (y 0).isLt
  have hy1 : (y 1).val < 1024 := (y 1).isLt
  refine View.read_writes_apply_of_pieces _ _ _ _ ?_ y ?_
  · intro p hp x
    obtain ⟨k, -, hp⟩ := (hm p).1 hp
    rw [trip_scalesT, List.mem_singleton] at hp
    subst hp
    have hx1 : (x 1).val < 256 := (x 1).isLt
    obtain ⟨h0, h1⟩ := off46_eq k
    show k0_pay253 _ x = scalesTOf _ ((Rect.unit (s := S24x1024) (k0_off46 k) S24x256.size (k0_off46_inb i k k0_h1)).emb x)
    have e0 : ((Rect.unit (s := S24x1024) (k0_off46 k) S24x256.size (k0_off46_inb i k k0_h1)).emb x 0).val = (x 0).val := by
      show k0_off46 k 0 + 1 * (x 0).val = _; rw [h0, one_mul, Nat.zero_add]
    have e1 : ((Rect.unit (s := S24x1024) (k0_off46 k) S24x256.size (k0_off46_inb i k k0_h1)).emb x 1).val = 256 * k.val + (x 1).val := by
      show k0_off46 k 1 + 1 * (x 1).val = _; rw [h1, one_mul]
    rw [show (fun g => arg2.view.readAt (Elt F) (Rect.unit (s := S1024x2816) (rdOff k g) S256x128.size (rdOff_inb k g)).toLoadRect X) = _ from funext fun g => readAt_eq X k g]
    exact (scalesTOf_at _ _ _ _ x e0 e1).symm
  · obtain ⟨k, hk⟩ : ∃ k : Fin k0_t1_loop.trips, k.val = (y 1).val / 256 := ⟨⟨(y 1).val / 256, (show (y 1).val / 256 < 4 by omega)⟩, rfl⟩
    refine ⟨⟨Rect.unit (s := S24x1024) (k0_off46 k) S24x256.size (k0_off46_inb i k k0_h1), _⟩, (hm _).2 ⟨k, k.isLt, by rw [trip_scalesT]; exact List.mem_singleton_self _⟩, ?_⟩
    obtain ⟨h0, h1⟩ := off46_eq k
    show y ∈ (Rect.unit (s := S24x1024) (k0_off46 k) S24x256.size (k0_off46_inb i k k0_h1)).set
    refine (Rect.mem_set_unit (inb := k0_off46_inb i k k0_h1)).2 fun a => ?_
    match a with
    | ⟨0, _⟩ => exact ⟨by show k0_off46 k 0 ≤ (y 0).val; rw [h0]; omega, by show (y 0).val < k0_off46 k 0 + 24; rw [h0]; omega⟩
    | ⟨1, _⟩ => exact ⟨by show k0_off46 k 1 ≤ (y 1).val; rw [h1]; omega, by show (y 1).val < k0_off46 k 1 + 256; rw [h1]; omega⟩

/-- After the loop: `x` as it was, and the four buffers at their functions of it. -/
instance loopExit (G6 : BufTy.Contents (Elt F) arg6.view.ty) (G7 : BufTy.Contents (Elt F) arg7.view.ty)
    (G8 : BufTy.Contents (Elt F) arg8.view.ty) (G9 : BufTy.Contents (Elt F) arg9.view.ty) :
    LoopExit (loopInv_k0_t1 (F := F) 𝒱 c bd E i arg2 harg2 arg3 harg3 arg4 harg4 arg5 harg5 arg6 harg6 arg7 harg7 arg8 harg8 arg9 harg9 arg10 harg10 k0_h1 X G6 G7 G8 G9) where
  post _ := iprop((arg2.view.loc (c : Thread nD τ) ↦[arg2.view.set]{fullShare} X)
    ∗ (arg6.view.loc (c : Thread nD τ) ↦[arg6.view.set]{fullShare} harg6.unread (codesOf (arg2.view.read (Elt F) X)))
    ∗ (arg7.view.loc (c : Thread nD τ) ↦[arg7.view.set]{fullShare} harg7.unread (scalesOf (arg2.view.read (Elt F) X)))
    ∗ (arg8.view.loc (c : Thread nD τ) ↦[arg8.view.set]{fullShare} harg8.unread (codesTOf (arg2.view.read (Elt F) X)))
    ∗ (arg9.view.loc (c : Thread nD τ) ↦[arg9.view.set]{fullShare} harg9.unread (scalesTOf (arg2.view.read (Elt F) X))))
  exit acc := by
    show inv_k0_t1 (F := F) 𝒱 c bd i arg2 harg2 arg3 harg3 arg4 harg4 arg5 harg5 arg6 harg6 arg7 harg7 arg8 harg8 arg9 harg9 arg10 harg10 k0_h1 X G6 G7 G8 G9 4 acc ⊢ _
    unfold inv_k0_t1
    iintro ⟨H2, ⟨%f6, H6, %h6⟩, ⟨%f7, H7, %h7⟩, ⟨%f8, H8, %h8⟩, ⟨%f9, H9, %h9⟩⟩
    have e6 := harg6.eq_unread ((congrArg (arg6.view.read (Elt F)) h6).trans (loop_codes (F := F) 𝒱 c bd i arg2 harg2 arg3 harg3 arg4 harg4 arg5 harg5 arg6 harg6 arg7 harg7 arg8 harg8 arg9 harg9 arg10 harg10 k0_h1 X G6))
    have e7 := harg7.eq_unread ((congrArg (arg7.view.read (Elt F)) h7).trans (loop_scales (F := F) 𝒱 c bd i arg2 harg2 arg3 harg3 arg4 harg4 arg5 harg5 arg6 harg6 arg7 harg7 arg8 harg8 arg9 harg9 arg10 harg10 k0_h1 X G7))
    have e8 := harg8.eq_unread ((congrArg (arg8.view.read (Elt F)) h8).trans (loop_codesT (F := F) 𝒱 c bd i arg2 harg2 arg3 harg3 arg4 harg4 arg5 harg5 arg6 harg6 arg7 harg7 arg8 harg8 arg9 harg9 arg10 harg10 k0_h1 X G8))
    have e9 := harg9.eq_unread ((congrArg (arg9.view.read (Elt F)) h9).trans (loop_scalesT (F := F) 𝒱 c bd i arg2 harg2 arg3 harg3 arg4 harg4 arg5 harg5 arg6 harg6 arg7 harg7 arg8 harg8 arg9 harg9 arg10 harg10 k0_h1 X G9))
    rw [← e6, ← e7, ← e8, ← e9]
    isplitl [H2]; · iexact H2
    isplitl [H6]; · iexact H6
    isplitl [H7]; · iexact H7
    isplitl [H8]; · iexact H8
    iexact H9

end

end Cert.KernelIdeal.Hand
end
-- ==== Proof.Tiles.lean ====
module

public import proofs.«01_k».proof.Proof.Loop

/-! # The products of one grid point

A grid point multiplies 512 rows of weights by the 1024 rows of codes in 16 tiles of 128 × 256. The printed text cuts the
22 groups of each tile at arbitrary places; here every tile is one function of what it loads, and the 16 tiles together
are one function `yOf` of the weights, their scales, the codes and their scales. -/

@[expose] public section

set_option maxRecDepth 16384

noncomputable section

namespace Cert.KernelIdeal.Hand

open Idealize.ShloMosaic Idealize.ShloMosaic.TcCoe Idealize.ShloMosaic.Tactic Cert.KernelIdeal.Gen
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem inb2 {a b p q A B : ℕ} (h0 : a + p ≤ A) (h1 : b + q ≤ B) : ∀ i : Fin 2, (![a, b] : Fin 2 → ℕ) i + (![p, q] : Fin 2 → ℕ) i ≤ (![A, B] : Fin 2 → ℕ) i := by
  intro i
  match i with
  | ⟨0, _⟩ => exact h0
  | ⟨1, _⟩ => exact h1

theorem w_inb (nb : Fin 4) (g : Fin 22) : ∀ a, (![128 * nb.val, 128 * g.val] : Fin 2 → ℕ) a + S128x128.size a ≤ S512x2816.size a :=
  inb2 (by omega) (by omega)
theorem c_inb (g : Fin 22) (mc : Fin 4) : ∀ a, (![128 * g.val, 256 * mc.val] : Fin 2 → ℕ) a + S128x256.size a ≤ S2816x1024.size a :=
  inb2 (by omega) (by omega)
theorem s_inb (nb : Fin 4) (g : Fin 22) (mc : Fin 4) : ∀ a, (![24 * nb.val + g.val, 256 * mc.val] : Fin 2 → ℕ) a + S1x256.size a ≤ S96x1024.size a :=
  inb2 (by omega) (by omega)
theorem y_inb (nb : Fin 4) (mc : Fin 4) : ∀ a, (![256 * mc.val, 128 * nb.val] : Fin 2 → ℕ) a + S256x128.size a ≤ S1024x512.size a :=
  inb2 (by omega) (by omega)
theorem k_inb (nb : Fin 4) : ∀ a, (![24 * nb.val, 0] : Fin 2 → ℕ) a + S24x1024.size a ≤ S96x1024.size a :=
  inb2 (by omega) (by omega)
theorem ws_inb (nb : Fin 4) : ∀ a, (![24 * nb.val, 0] : Fin 2 → ℕ) a + S24x1.size a ≤ S96x1.size a :=
  inb2 (by omega) (by omega)
theorem st_inb : ∀ a, (![0, 0] : Fin 2 → ℕ) a + S24x1024.size a ≤ S24x1024.size a :=
  inb2 (by omega) (by omega)

/-- One group's term of a tile. -/
def term (w : Vec F S128x128 .fp8e4m3) (ct : Vec F S128x256 .fp8e4m3) (s : Vec F S1x256 .f32) : FVec F S128x256 .f32 :=
  mulf (matmul dot_S128x128_S128x256_S128x256_1_0_0_1_n_n none w ct (constant S128x256 .f32 0x00000000#32))
    (broadcastTo S128x256 s broadcasts_S1x256_S128x256)

/-- A tile: its 22 terms summed in order, rounded, transposed. -/
def tile (w : Fin 22 → Vec F S128x128 .fp8e4m3) (ct : Fin 22 → Vec F S128x256 .fp8e4m3) (s : Fin 22 → Vec F S1x256 .f32) : FVec F S256x128 .bf16 :=
  transpose S256x128 [1, 0] (truncf .bf16 (List.foldl (fun a g => addf a (term (w g) (ct g) (s g))) (term (w 0) (ct 0) (s 0))
    [1, 2, 3, 4, 5, 6, 7, 8, 9, 10, 11, 12, 13, 14, 15, 16, 17, 18, 19, 20, 21]) bitsLt_bf16_f32) transposes_S128x256_p1_0_S256x128

section
variable (arg3 : Memref sig .tc .vmem S512x2816 .fp8e4m3) (arg4 : Memref sig .tc .vmem S96x1 .f32) (arg5 : Memref sig .tc .vmem S1024x512 .bf16) (arg8 : Memref sig .tc .vmem S2816x1024 .fp8e4m3) (arg9 : Memref sig .tc .vmem S24x1024 .f32) (arg10 : Memref sig .tc .vmem S96x1024 .f32)
  (X3 : BufTy.Contents (Elt F) arg3.view.ty) (X4 : BufTy.Contents (Elt F) arg4.view.ty) (X8 : BufTy.Contents (Elt F) arg8.view.ty) (X9 : BufTy.Contents (Elt F) arg9.view.ty)

/-- The scales of 128 columns of weights times the scales of the codes, as stored. -/
def kPiece (nb : Fin 4) : View.Piece (Elt F) S96x1024 .f32 :=
  ⟨Rect.unit (s := S96x1024) ![24 * nb.val, 0] S24x1024.size (k_inb nb),
    k0_pay254 (arg9.view.readAt (Elt F) (Rect.unit (s := S24x1024) ![0, 0] S24x1024.size st_inb).toLoadRect X9)
      (arg4.view.readAt (Elt F) (Rect.unit (s := S96x1) ![24 * nb.val, 0] S24x1.size (ws_inb nb)).toLoadRect X4)⟩

def kList : List (View.Piece (Elt F) S96x1024 .f32) := [kPiece arg4 arg9 X4 X9 3, kPiece arg4 arg9 X4 X9 2, kPiece arg4 arg9 X4 X9 1, kPiece arg4 arg9 X4 X9 0]

/-- One tile, as stored. -/
def yPiece (nb mc : Fin 4) : View.Piece (Elt F) S1024x512 .bf16 :=
  ⟨Rect.unit (s := S1024x512) ![256 * mc.val, 128 * nb.val] S256x128.size (y_inb nb mc),
    tile (fun g => arg3.view.readAt (Elt F) (Rect.unit (s := S512x2816) ![128 * nb.val, 128 * g.val] S128x128.size (w_inb nb g)).toLoadRect X3)
      (fun g => arg8.view.readAt (Elt F) (Rect.unit (s := S2816x1024) ![128 * g.val, 256 * mc.val] S128x256.size (c_inb g mc)).toLoadRect X8)
      (fun g => arg10.view.readCov (kList arg4 arg9 X4 X9) (Rect.unit (s := S96x1024) ![24 * nb.val + g.val, 256 * mc.val] S1x256.size (s_inb nb g mc)).toLoadRect)⟩

def yList : List (View.Piece (Elt F) S1024x512 .bf16) :=
  [yPiece arg3 arg4 arg8 arg9 arg10 X3 X4 X8 X9 3 3, yPiece arg3 arg4 arg8 arg9 arg10 X3 X4 X8 X9 3 2,
   yPiece arg3 arg4 arg8 arg9 arg10 X3 X4 X8 X9 3 1, yPiece arg3 arg4 arg8 arg9 arg10 X3 X4 X8 X9 3 0,
   yPiece arg3 arg4 arg8 arg9 arg10 X3 X4 X8 X9 2 3, yPiece arg3 arg4 arg8 arg9 arg10 X3 X4 X8 X9 2 2,
   yPiece arg3 arg4 arg8 arg9 arg10 X3 X4 X8 X9 2 1, yPiece arg3 arg4 arg8 arg9 arg10 X3 X4 X8 X9 2 0,
   yPiece arg3 arg4 arg8 arg9 arg10 X3 X4 X8 X9 1 3, yPiece arg3 arg4 arg8 arg9 arg10 X3 X4 X8 X9 1 2,
   yPiece arg3 arg4 arg8 arg9 arg10 X3 X4 X8 X9 1 1, yPiece arg3 arg4 arg8 arg9 arg10 X3 X4 X8 X9 1 0,
   yPiece arg3 arg4 arg8 arg9 arg10 X3 X4 X8 X9 0 3, yPiece arg3 arg4 arg8 arg9 arg10 X3 X4 X8 X9 0 2,
   yPiece arg3 arg4 arg8 arg9 arg10 X3 X4 X8 X9 0 1, yPiece arg3 arg4 arg8 arg9 arg10 X3 X4 X8 X9 0 0]

end

/-- The scales of 128 columns of weights times the scales of the codes. -/
def kOf (x2 : Vec F S96x1 .f32) (st : Vec F S24x1024 .f32) : Vec F S96x1024 .f32 := fun y =>
  k0_pay254 st (fun j => x2 (ix2 ⟨24 * ((y 0).val / 24) + (j 0).val, by
      have : (y 0).val < 96 := (y 0).isLt; have : (j 0).val < 24 := (j 0).isLt; omega⟩ ⟨(j 1).val, (j 1).isLt⟩))
    (ix2 ⟨(y 0).val % 24, Nat.mod_lt _ (by norm_num)⟩ (y 1))

/-- The tile of columns `128 nb …` of weights and rows `256 mc …` of codes. -/
def tileOf (x1 : Vec F S512x2816 .fp8e4m3) (x2 : Vec F S96x1 .f32) (ct : Vec F S2816x1024 .fp8e4m3) (st : Vec F S24x1024 .f32) (nb mc : Fin 4) : FVec F S256x128 .bf16 :=
  tile (fun g j => x1 (ix2 ⟨128 * nb.val + (j 0).val, by have : (j 0).val < 128 := (j 0).isLt; omega⟩ ⟨128 * g.val + (j 1).val, by have : (j 1).val < 128 := (j 1).isLt; omega⟩))
    (fun g j => ct (ix2 ⟨128 * g.val + (j 0).val, by have : (j 0).val < 128 := (j 0).isLt; omega⟩ ⟨256 * mc.val + (j 1).val, by have : (j 1).val < 256 := (j 1).isLt; omega⟩))
    (fun g j => kOf x2 st (ix2 ⟨24 * nb.val + g.val + (j 0).val, by have : (j 0).val < 1 := (j 0).isLt; omega⟩ ⟨256 * mc.val + (j 1).val, by have : (j 1).val < 256 := (j 1).isLt; omega⟩))

/-- A grid point's products. -/
def yOf (x1 : Vec F S512x2816 .fp8e4m3) (x2 : Vec F S96x1 .f32) (ct : Vec F S2816x1024 .fp8e4m3) (st : Vec F S24x1024 .f32) : Vec F S1024x512 .bf16 := fun y =>
  tileOf x1 x2 ct st ⟨(y 1).val / 128, by have : (y 1).val < 512 := (y 1).isLt; omega⟩ ⟨(y 0).val / 256, by have : (y 0).val < 1024 := (y 0).isLt; omega⟩
    (ix2 ⟨(y 0).val % 256, Nat.mod_lt _ (by norm_num)⟩ ⟨(y 1).val % 128, Nat.mod_lt _ (by norm_num)⟩)

/-- A load of a block, as a function of the buffer's value. -/
theorem readAt_unit2 {sp : Space} {A B p q a b : ℕ} {e : EltTy} (m : Memref sig .tc sp ⟨2, ![A, B]⟩ e) (X : BufTy.Contents (Elt F) m.view.ty)
    (inb : ∀ i, (![a, b] : Fin 2 → ℕ) i + (![p, q] : Fin 2 → ℕ) i ≤ (⟨2, ![A, B]⟩ : Shape).size i)
    (h0 : a + p ≤ A) (h1 : b + q ≤ B) (j : (⟨2, ![p, q]⟩ : Shape).Idx) :
    m.view.readAt (Elt F) (Rect.unit (s := ⟨2, ![A, B]⟩) ![a, b] ![p, q] inb).toLoadRect X j
      = m.view.read (Elt F) X (ix2 ⟨a + (j 0).val, by have : (j 0).val < p := (j 0).isLt; omega⟩ ⟨b + (j 1).val, by have : (j 1).val < q := (j 1).isLt; omega⟩) := by
  rw [View.readAt_apply]
  refine congrArg _ (funext fun i => Fin.ext ?_)
  match i with
  | ⟨0, _⟩ => show a + 1 * (j 0).val = _; rw [one_mul]; rfl
  | ⟨1, _⟩ => show b + 1 * (j 1).val = _; rw [one_mul]; rfl

theorem kOf_at (x2 : Vec F S96x1 .f32) (st : Vec F S24x1024 .f32) (y : S96x1024.Idx) (nb : Fin 4) (j : S24x1024.Idx)
    (h0 : (y 0).val = 24 * nb.val + (j 0).val) (h1 : (y 1).val = (j 1).val) :
    kOf x2 st y = k0_pay254 st (fun j => x2 (ix2 ⟨24 * nb.val + (j 0).val, by have : (j 0).val < 24 := (j 0).isLt; omega⟩ ⟨0 + (j 1).val, by have : (j 1).val < 1 := (j 1).isLt; omega⟩)) j := by
  have hj : (j 0).val < 24 := (j 0).isLt
  refine congr (congrArg (k0_pay254 st) (funext fun l => congrArg x2 (funext fun a => Fin.ext ?_))) (funext fun a => Fin.ext ?_)
  · match a with
    | ⟨0, _⟩ => show 24 * ((y 0).val / 24) + (l 0).val = 24 * nb.val + (l 0).val; omega
    | ⟨1, _⟩ => show (l 1).val = 0 + (l 1).val; omega
  · match a with
    | ⟨0, _⟩ => show (y 0).val % 24 = (j 0).val; omega
    | ⟨1, _⟩ => exact h1

theorem yOf_at (x1 : Vec F S512x2816 .fp8e4m3) (x2 : Vec F S96x1 .f32) (ct : Vec F S2816x1024 .fp8e4m3) (st : Vec F S24x1024 .f32) (y : S1024x512.Idx) (nb mc : Fin 4) (j : S256x128.Idx)
    (h0 : (y 0).val = 256 * mc.val + (j 0).val) (h1 : (y 1).val = 128 * nb.val + (j 1).val) :
    yOf x1 x2 ct st y = tileOf x1 x2 ct st nb mc j := by
  have hj0 : (j 0).val < 256 := (j 0).isLt
  have hj1 : (j 1).val < 128 := (j 1).isLt
  refine congr (congr (congrArg (tileOf x1 x2 ct st) (Fin.ext ?_)) (Fin.ext ?_)) (funext fun a => Fin.ext ?_)
  · show (y 1).val / 128 = nb.val; omega
  · show (y 0).val / 256 = mc.val; omega
  · match a with
    | ⟨0, _⟩ => show (y 0).val % 256 = (j 0).val; omega
    | ⟨1, _⟩ => show (y 1).val % 128 = (j 1).val; omega

section
variable (arg3 : Memref sig .tc .vmem S512x2816 .fp8e4m3) (arg4 : Memref sig .tc .vmem S96x1 .f32) (arg5 : Memref sig .tc .vmem S1024x512 .bf16) (arg8 : Memref sig .tc .vmem S2816x1024 .fp8e4m3) (arg9 : Memref sig .tc .vmem S24x1024 .f32) (arg10 : Memref sig .tc .vmem S96x1024 .f32)
  (X3 : BufTy.Contents (Elt F) arg3.view.ty) (X4 : BufTy.Contents (Elt F) arg4.view.ty) (X8 : BufTy.Contents (Elt F) arg8.view.ty) (X9 : BufTy.Contents (Elt F) arg9.view.ty)

/-- What a load of the products of scales finds. -/
theorem k_read (f : BufTy.Contents (Elt F) arg10.view.ty) :
    arg10.view.read (Elt F) (arg10.view.writes (Elt F) f (kList arg4 arg9 X4 X9)) = kOf (arg4.view.read (Elt F) X4) (arg9.view.read (Elt F) X9) := by
  have hm : ∀ p, p ∈ kList arg4 arg9 X4 X9 ↔ ∃ nb, p = kPiece arg4 arg9 X4 X9 nb := by
    intro p
    unfold kList
    constructor
    · simp only [List.mem_cons, List.not_mem_nil, or_false]
      rintro (h | h | h | h) <;> exact ⟨_, h⟩
    · rintro ⟨nb, rfl⟩
      fin_cases nb <;> simp
  funext y
  have hy0 : (y 0).val < 96 := (y 0).isLt
  have hy1 : (y 1).val < 1024 := (y 1).isLt
  refine View.read_writes_apply_of_pieces _ _ _ _ ?_ y ?_
  · intro p hp j
    obtain ⟨nb, rfl⟩ := (hm p).1 hp
    have hst : arg9.view.readAt (Elt F) (Rect.unit (s := S24x1024) ![0, 0] S24x1024.size st_inb).toLoadRect X9 = arg9.view.read (Elt F) X9 := by
      funext l
      refine (readAt_unit2 arg9 X9 st_inb (by norm_num) (by norm_num) l).trans (congrArg _ (funext fun a => Fin.ext ?_))
      match a with
      | ⟨0, _⟩ => exact Nat.zero_add _
      | ⟨1, _⟩ => exact Nat.zero_add _
    have hws : arg4.view.readAt (Elt F) (Rect.unit (s := S96x1) ![24 * nb.val, 0] S24x1.size (ws_inb nb)).toLoadRect X4 = _ :=
      funext fun l => readAt_unit2 arg4 X4 (ws_inb nb) (by omega) (by norm_num) l
    refine Eq.trans (b := k0_pay254 (arg9.view.read (Elt F) X9) (fun l => arg4.view.read (Elt F) X4 (ix2 ⟨24 * nb.val + (l 0).val, by have : (l 0).val < 24 := (l 0).isLt; omega⟩ ⟨0 + (l 1).val, by have : (l 1).val < 1 := (l 1).isLt; omega⟩)) j) ?_
      (kOf_at _ _ _ nb j ?_ ?_).symm
    · exact congrFun (congr (congrArg k0_pay254 hst) hws) j
    · show 24 * nb.val + 1 * (j 0).val = _; rw [one_mul]
    · show 0 + 1 * (j 1).val = _; rw [one_mul, Nat.zero_add]
  · refine ⟨_, (hm _).2 ⟨⟨(y 0).val / 24, by omega⟩, rfl⟩, ?_⟩
    show y ∈ (Rect.unit (s := S96x1024) ![24 * ((y 0).val / 24), 0] S24x1024.size (k_inb ⟨(y 0).val / 24, by omega⟩)).set
    refine (Rect.mem_set_unit (inb := k_inb ⟨(y 0).val / 24, by omega⟩)).2 fun a => ?_
    match a with
    | ⟨0, _⟩ => exact ⟨(by omega : 24 * ((y 0).val / 24) ≤ (y 0).val), (by omega : (y 0).val < 24 * ((y 0).val / 24) + 24)⟩
    | ⟨1, _⟩ => exact ⟨Nat.zero_le _, (by omega : (y 1).val < 0 + 1024)⟩

/-- The 16 tiles together. -/
theorem y_read (f : BufTy.Contents (Elt F) arg5.view.ty) :
    arg5.view.read (Elt F) (arg5.view.writes (Elt F) f (yList arg3 arg4 arg8 arg9 arg10 X3 X4 X8 X9))
      = yOf (arg3.view.read (Elt F) X3) (arg4.view.read (Elt F) X4) (arg8.view.read (Elt F) X8) (arg9.view.read (Elt F) X9) := by
  have hm : ∀ p, p ∈ yList arg3 arg4 arg8 arg9 arg10 X3 X4 X8 X9 ↔ ∃ nb mc, p = yPiece arg3 arg4 arg8 arg9 arg10 X3 X4 X8 X9 nb mc := by
    intro p
    unfold yList
    constructor
    · simp only [List.mem_cons, List.not_mem_nil, or_false]
      rintro (h | h | h | h | h | h | h | h | h | h | h | h | h | h | h | h) <;> exact ⟨_, _, h⟩
    · rintro ⟨nb, mc, rfl⟩
      fin_cases nb <;> fin_cases mc <;> simp
  funext y
  have hy0 : (y 0).val < 1024 := (y 0).isLt
  have hy1 : (y 1).val < 512 := (y 1).isLt
  refine View.read_writes_apply_of_pieces _ _ _ _ ?_ y ?_
  · intro p hp j
    obtain ⟨nb, mc, rfl⟩ := (hm p).1 hp
    refine Eq.trans ?_ (yOf_at _ _ _ _ _ nb mc j ?_ ?_).symm
    · refine congrFun (congr (congr (congrArg tile (funext fun g => funext fun l => ?_)) (funext fun g => funext fun l => ?_)) (funext fun g => funext fun l => ?_)) j
      · exact readAt_unit2 arg3 X3 (w_inb nb g) (by omega) (by omega) l
      · exact readAt_unit2 arg8 X8 (c_inb g mc) (by omega) (by omega) l
      · refine (readAt_unit2 arg10 _ (s_inb nb g mc) (by omega) (by omega) l).trans ?_
        rw [k_read]
    · show 256 * mc.val + 1 * (j 0).val = _; rw [one_mul]
    · show 128 * nb.val + 1 * (j 1).val = _; rw [one_mul]
  · refine ⟨_, (hm _).2 ⟨⟨(y 1).val / 128, by omega⟩, ⟨(y 0).val / 256, by omega⟩, rfl⟩, ?_⟩
    show y ∈ (Rect.unit (s := S1024x512) ![256 * ((y 0).val / 256), 128 * ((y 1).val / 128)] S256x128.size (y_inb ⟨(y 1).val / 128, by omega⟩ ⟨(y 0).val / 256, by omega⟩)).set
    refine (Rect.mem_set_unit (inb := y_inb ⟨(y 1).val / 128, by omega⟩ ⟨(y 0).val / 256, by omega⟩)).2 fun a => ?_
    match a with
    | ⟨0, _⟩ => exact ⟨(by omega : 256 * ((y 0).val / 256) ≤ (y 0).val), (by omega : (y 0).val < 256 * ((y 0).val / 256) + 256)⟩
    | ⟨1, _⟩ => exact ⟨(by omega : 128 * ((y 1).val / 128) ≤ (y 1).val), (by omega : (y 1).val < 128 * ((y 1).val / 128) + 128)⟩

end

end Cert.KernelIdeal.Hand
end
-- ==== Proof.Runs.lean ====
module

public import proofs.«01_k».proof.Proof.Tiles

/-! # The body at one grid point

At a point that starts a block of rows the body quantises the block and then multiplies; at any other point it multiplies
by what the block's first point left in the scratch. -/

@[expose] public section

set_option maxRecDepth 16384

noncomputable section

namespace Cert.KernelIdeal.Hand

open Idealize.ShloMosaic Idealize.ShloMosaic.TcCoe Idealize.ShloMosaic.Tactic Cert.KernelIdeal.Gen
open Idealize.ShloMosaic.Pointwise
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- At a point that does not start a block of rows: the products of the weights by the scratch. -/
theorem run_B (c : Dev nD) (i : grid0.Coords) (arg2 : Memref sig .tc .vmem S1024x2816 .bf16) (harg2 : arg2.IsWhole) (arg3 : Memref sig .tc .vmem S512x2816 .fp8e4m3) (harg3 : arg3.IsWhole) (arg4 : Memref sig .tc .vmem S96x1 .f32) (harg4 : arg4.IsWhole) (arg5 : Memref sig .tc .vmem S1024x512 .bf16) (harg5 : arg5.IsWhole) (arg6 : Memref sig .tc .vmem S1024x2816 .fp8e4m3) (harg6 : arg6.IsWhole) (arg7 : Memref sig .tc .vmem S1024x22 .f32) (harg7 : arg7.IsWhole) (arg8 : Memref sig .tc .vmem S2816x1024 .fp8e4m3) (harg8 : arg8.IsWhole) (arg9 : Memref sig .tc .vmem S24x1024 .f32) (harg9 : arg9.IsWhole) (arg10 : Memref sig .tc .vmem S96x1024 .f32) (harg10 : arg10.IsWhole) (hc0 : ¬k0_cond1 i = 1#1)
    (x0 : Vec F S1024x2816 .bf16) (x1 : Vec F S512x2816 .fp8e4m3) (x2 : Vec F S96x1 .f32) (ct : Vec F S2816x1024 .fp8e4m3) (st : Vec F S24x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg8 fullShare ct ∗ owns (c : Thread nD τ) arg9 fullShare st ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare (yOf x1 x2 ct st) ∗ owns (c : Thread nD τ) arg8 fullShare ct ∗ owns (c : Thread nD τ) arg9 fullShare st ∗ (∃ d, owns (c : Thread nD τ) arg10 fullShare d)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  simp only [k0_part136_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part137_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, Hk⟩
  obtain rfl := harg2.eq_unread hf0; obtain rfl := harg3.eq_unread hf1; obtain rfl := harg4.eq_unread hf2; obtain rfl := harg8.eq_unread hfs0; obtain rfl := harg9.eq_unread hfs1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (congrArg (fun L => arg5.view.read (Elt F) (arg5.view.writes (Elt F) f3 L))
      (show _ = yList arg3 arg4 arg8 arg9 arg10 (harg3.unread x1) (harg4.unread x2) (harg8.unread ct) (harg9.unread st) from rfl)).trans ?_
    rw [y_read]; simp only [Memref.IsWhole.read_unread]
  isplitl [HS0]
  · iexists _; isplitr; · ipureintro; exact harg8.read_unread _
    iexact HS0
  isplitl [HS1]
  · iexists _; isplitr; · ipureintro; exact harg9.read_unread _
    iexact HS1
  iexists _, _; isplitr; swap; · iexact HS2
  ipureintro; rfl

set_option maxHeartbeats 2000000 in
/-- At a point that starts a block of rows: the codes and scales of the block, and the products of the weights by them. -/
theorem run_A (c : Dev nD) (i : grid0.Coords) (arg2 : Memref sig .tc .vmem S1024x2816 .bf16) (harg2 : arg2.IsWhole) (arg3 : Memref sig .tc .vmem S512x2816 .fp8e4m3) (harg3 : arg3.IsWhole) (arg4 : Memref sig .tc .vmem S96x1 .f32) (harg4 : arg4.IsWhole) (arg5 : Memref sig .tc .vmem S1024x512 .bf16) (harg5 : arg5.IsWhole) (arg6 : Memref sig .tc .vmem S1024x2816 .fp8e4m3) (harg6 : arg6.IsWhole) (arg7 : Memref sig .tc .vmem S1024x22 .f32) (harg7 : arg7.IsWhole) (arg8 : Memref sig .tc .vmem S2816x1024 .fp8e4m3) (harg8 : arg8.IsWhole) (arg9 : Memref sig .tc .vmem S24x1024 .f32) (harg9 : arg9.IsWhole) (arg10 : Memref sig .tc .vmem S96x1024 .f32) (harg10 : arg10.IsWhole) (hc0 : k0_cond1 i = 1#1)
    (x0 : Vec F S1024x2816 .bf16) (x1 : Vec F S512x2816 .fp8e4m3) (x2 : Vec F S96x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare (yOf x1 x2 (codesTOf x0) (scalesTOf x0)) ∗ owns (c : Thread nD τ) arg6 fullShare (codesOf x0) ∗ owns (c : Thread nD τ) arg7 fullShare (scalesOf x0) ∗ owns (c : Thread nD τ) arg8 fullShare (codesTOf x0) ∗ owns (c : Thread nD τ) arg9 fullShare (scalesTOf x0) ∗ (∃ d, owns (c : Thread nD τ) arg10 fullShare d)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10) K := by
  simp only [cc0__kernel_eq_skeleton]; unfold cc0__kernel_skel
  simp only [k0_part136_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part137_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | sl_exact hc0)
  sl_step
  iapply Hk
  isplitl [HL0]
  · iexists _; isplitr; · ipureintro; exact harg2.read_unread _
    iexact HL0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (congrArg (fun L => arg5.view.read (Elt F) (arg5.view.writes (Elt F) f3 L))
      (show _ = yList arg3 arg4 arg8 arg9 arg10 (harg3.unread x1) (harg4.unread x2) (harg8.unread (codesTOf (arg2.view.read (Elt F) (harg2.unread x0)))) (harg9.unread (scalesTOf (arg2.view.read (Elt F) (harg2.unread x0)))) from rfl)).trans ?_
    rw [y_read]; simp only [Memref.IsWhole.read_unread]
  isplitl [HL1]
  · iexists _; isplitr; swap; · iexact HL1
    ipureintro; simp only [Memref.IsWhole.read_unread]
  isplitl [HL2]
  · iexists _; isplitr; swap; · iexact HL2
    ipureintro; simp only [Memref.IsWhole.read_unread]
  isplitl [HL3]
  · iexists _; isplitr; swap; · iexact HL3
    ipureintro; simp only [Memref.IsWhole.read_unread]
  isplitl [HL4]
  · iexists _; isplitr; swap; · iexact HL4
    ipureintro; simp only [Memref.IsWhole.read_unread]
  iexists _, _; isplitr; swap; · iexact HS2
  ipureintro; rfl

end Cert.KernelIdeal.Hand
end
-- ==== Proof.Frame.lean ====
module

public import proofs.«01_k».proof.Proof.Runs
public import proofs.«01_k».proof.Proof.Gen.KernelIdeal.Frame
public import Idealize.ShloMosaic.Lib.Claim

/-! # The run of the whole grid

The grid is six blocks of rows by seven blocks of columns. The first point of a block of rows quantises it into the two
result windows and the scratch; the six points after it find both as it left them. -/

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body quantises at the points that start a block of rows. -/
theorem starts : ∀ t : Fin cfg0.N, k0_cond1 (grid0.coords t) = 1#1 ↔ t.val % 7 = 0 :=
  (fun t => by
    have ht : t.val < 42 := Nat.lt_of_lt_of_eq t.isLt N_0
    have e0 : (grid0.coords t 0).val = t.val / 7 % 6 := Pipeline.Grid.coords_val t 0 (by decide) rfl
    have e1 : (grid0.coords t 1).val = t.val / 1 % 7 := Pipeline.Grid.coords_val t 1 (by decide) rfl
    simp only [k0_cond1, e0, e1]
    word_cmp
   : ∀ t : Fin grid0.N, k0_cond1 (grid0.coords t) = 1#1 ↔ t.val % 7 = 0)

/-- The codes' window is idle at the other points. -/
theorem idle4 (t : Fin cfg0.N) : cfg0.idle 4 (grid0.coords t) = !(k0_cond1 (grid0.coords t) == 1#1) := rfl
/-- So is the scales' window. -/
theorem idle5 (t : Fin cfg0.N) : cfg0.idle 5 (grid0.coords t) = !(k0_cond1 (grid0.coords t) == 1#1) := rfl

theorem cond_true (t : Fin cfg0.N) (h : t.val % 7 = 0) : (k0_cond1 (grid0.coords t) == 1#1) = true := by
  rw [(starts t).mpr h]; rfl
theorem cond_false (t : Fin cfg0.N) (h : ¬t.val % 7 = 0) : (k0_cond1 (grid0.coords t) == 1#1) = false := by
  rw [Bool.eq_false_iff, ne_eq, beq_iff_eq]; exact fun e => h ((starts t).mp e)

abbrev ms0 (t : Fin cfg0.N) : Memref sig .tc .vmem S1024x2816 .bf16 := win0_0.stage (cfg0.slots t 0)
abbrev ms1 (t : Fin cfg0.N) : Memref sig .tc .vmem S512x2816 .fp8e4m3 := win0_1.stage (cfg0.slots t 1)
abbrev ms2 (t : Fin cfg0.N) : Memref sig .tc .vmem S96x1 .f32 := win0_2.stage (cfg0.slots t 2)
abbrev ms3 (t : Fin cfg0.N) : Memref sig .tc .vmem S1024x512 .bf16 := win0_3.stage (cfg0.slots t 3)
abbrev ms4 (t : Fin cfg0.N) : Memref sig .tc .vmem S1024x2816 .fp8e4m3 := win0_4.stage (cfg0.slots t 4)
abbrev ms5 (t : Fin cfg0.N) : Memref sig .tc .vmem S1024x22 .f32 := win0_5.stage (cfg0.slots t 5)
/-- The scratch: codes transposed, scales transposed, products of scales. -/
abbrev sc0 : Memref sig .tc .vmem S2816x1024 .fp8e4m3 := Memref.whole cc0_scratch0
abbrev sc1 : Memref sig .tc .vmem S24x1024 .f32 := Memref.whole cc0_scratch1
abbrev sc2 : Memref sig .tc .vmem S96x1024 .f32 := Memref.whole cc0_scratch2

/-- What the region finds scoped, the scratch as memrefs at some contents. -/
theorem found_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The block of activations at a point. -/
abbrev xblk (c : Dev nD) (t : Fin cfg0.N) : Vec F S1024x2816 .bf16 := iblk m c 0 t

/-- What is held before point `n`: at the start, the scratch at anything; later, the scratch at the codes and scales of
    the block of activations of the point before. -/
def held (c : Dev nD) : (n : ℕ) → n ≤ cfg0.N → sProp 𝕄
  | 0, _ => Pipeline.ΦA spec0 c
  | n + 1, hn => iprop(iprop(owns (c : Thread nD τ) sc0 fullShare (codesTOf (xblk m c ⟨n, hn⟩)) ∗ owns (c : Thread nD τ) sc1 fullShare (scalesTOf (xblk m c ⟨n, hn⟩)) ∗ (∃ d, owns (c : Thread nD τ) sc2 fullShare d)) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) (hp : n - 1 < cfg0.N) :
    held m c n h = iprop(iprop(owns (c : Thread nD τ) sc0 fullShare (codesTOf (xblk m c ⟨n - 1, hp⟩)) ∗ owns (c : Thread nD τ) sc1 fullShare (scalesTOf (xblk m c ⟨n - 1, hp⟩)) ∗ (∃ d, owns (c : Thread nD τ) sc2 fullShare d)) ∗ (∃ r, prngReg c r)) := by
  cases n with
  | zero => exact absurd rfl hz
  | succ n => rfl

/-- The proof data: inputs left in place, the product block, the codes and the scales of the block of activations. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOf (iblk m c 1 t) (iblk m c 2 t) (codesTOf (xblk m c t)) (scalesTOf (xblk m c t))
    | ⟨4, _⟩ => codesOf (xblk m c t)
    | ⟨5, _⟩ => scalesOf (xblk m c t)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = yOf (iblk m c 1 t) (iblk m c 2 t) (codesTOf (xblk m c t)) (scalesTOf (xblk m c t)) := by dsimp only [dats]
theorem after4 (c : Dev nD) (t : Fin cfg0.N) : (dats m 0 c).after 4 t = codesOf (xblk m c t) := by dsimp only [dats]
theorem after5 (c : Dev nD) (t : Fin cfg0.N) : (dats m 0 c).after 5 t = scalesOf (xblk m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Within a block of rows the activations' window does not move. -/
theorem xblk_prev (c : Dev nD) (t : Fin cfg0.N) (h : ¬t.val % 7 = 0) (hp : t.val - 1 < cfg0.N) :
    xblk m c ⟨t.val - 1, hp⟩ = xblk m c t := by
  have hf : (cfg0.win 0).fetch t = false := by
    rw [Bool.eq_false_iff]; exact fun e => h ((fetch0_0 t).mp e)
  have e := (dats m 0 c).before_unfetched_in 0 rfl t hf (fun _ => rfl) (iblk m c 0 t)
  rw [before0] at e
  refine Eq.trans ?_ e.symm
  refine Eq.trans ?_ (congrArg (fun v => (cfg0.win 0).fill (cfg0.grid.coords ⟨t.val - 1, hp⟩) (iblk m c 0 t) ((cfg0.win 0).cut (cfg0.grid.coords ⟨t.val - 1, hp⟩) v)) (after0 m c ⟨t.val - 1, hp⟩).symm)
  rfl

/-- A point that does not start a block of rows finds the codes its block's first point left. -/
theorem before4 (c : Dev nD) (d) : (n : ℕ) → (hn : n < cfg0.N) → ¬n % 7 = 0 → (dats m 0 c).before 4 ⟨n, hn⟩ d = codesOf (xblk m c ⟨n, hn⟩)
  | 0, _, h => absurd rfl h
  | n + 1, hn, h => by
    have hp : n < cfg0.N := Nat.lt_of_succ_lt hn
    have hfl : (cfg0.win 4).flush ⟨n, hp⟩ = false := by
      rw [Bool.eq_false_iff]; intro e; have := (flush0_4 ⟨n, hp⟩).mp e; dsimp only at this; omega
    rw [(dats m 0 c).before_of_pos 4 ⟨n + 1, hn⟩ (Nat.succ_ne_zero n) ((cfg0.win 4).fetch_out rfl _) d]
    rw [show (⟨(⟨n + 1, hn⟩ : Fin cfg0.N).val - 1, Nat.lt_of_le_of_lt (Nat.sub_le _ _) (⟨n + 1, hn⟩ : Fin cfg0.N).isLt⟩ : Fin cfg0.N) = ⟨n, hp⟩ from rfl]
    rw [hfl, if_neg Bool.false_ne_true, ← xblk_prev m c ⟨n + 1, hn⟩ h hp]
    unfold Dat.left
    by_cases h0 : n % 7 = 0
    · rw [show cfg0.idle 4 (cfg0.grid.coords ⟨n, hp⟩) = false from (idle4 ⟨n, hp⟩).trans (by rw [cond_true ⟨n, hp⟩ h0]; rfl)]
      refine Eq.trans ?_ (after4 m c ⟨n, hp⟩)
      rfl
    · rw [show cfg0.idle 4 (cfg0.grid.coords ⟨n, hp⟩) = true from (idle4 ⟨n, hp⟩).trans (by rw [cond_false ⟨n, hp⟩ h0]; rfl)]
      exact before4 c d n hp h0

/-- And the scales. -/
theorem before5 (c : Dev nD) (d) : (n : ℕ) → (hn : n < cfg0.N) → ¬n % 7 = 0 → (dats m 0 c).before 5 ⟨n, hn⟩ d = scalesOf (xblk m c ⟨n, hn⟩)
  | 0, _, h => absurd rfl h
  | n + 1, hn, h => by
    have hp : n < cfg0.N := Nat.lt_of_succ_lt hn
    have hfl : (cfg0.win 5).flush ⟨n, hp⟩ = false := by
      rw [Bool.eq_false_iff]; intro e; have := (flush0_5 ⟨n, hp⟩).mp e; dsimp only at this; omega
    rw [(dats m 0 c).before_of_pos 5 ⟨n + 1, hn⟩ (Nat.succ_ne_zero n) ((cfg0.win 5).fetch_out rfl _) d]
    rw [show (⟨(⟨n + 1, hn⟩ : Fin cfg0.N).val - 1, Nat.lt_of_le_of_lt (Nat.sub_le _ _) (⟨n + 1, hn⟩ : Fin cfg0.N).isLt⟩ : Fin cfg0.N) = ⟨n, hp⟩ from rfl]
    rw [hfl, if_neg Bool.false_ne_true, ← xblk_prev m c ⟨n + 1, hn⟩ h hp]
    unfold Dat.left
    by_cases h0 : n % 7 = 0
    · rw [show cfg0.idle 5 (cfg0.grid.coords ⟨n, hp⟩) = false from (idle5 ⟨n, hp⟩).trans (by rw [cond_true ⟨n, hp⟩ h0]; rfl)]
      refine Eq.trans ?_ (after5 m c ⟨n, hp⟩)
      rfl
    · rw [show cfg0.idle 5 (cfg0.grid.coords ⟨n, hp⟩) = true from (idle5 ⟨n, hp⟩).trans (by rw [cond_false ⟨n, hp⟩ h0]; rfl)]
      exact before5 c d n hp h0

/-! ## What the body must leave -/

theorem leaves0 (c : Dev nD) (t : Fin cfg0.N) : (dats m 0 c).leavesExact 0 t = (owns (c : Thread nD τ) (ms0 t) fullShare (iblk m c 0 t) : sProp 𝕄) := by
  unfold Dat.leavesExact; rw [show cfg0.idle 0 (cfg0.grid.coords t) = false from rfl, after0]
theorem leaves1 (c : Dev nD) (t : Fin cfg0.N) : (dats m 0 c).leavesExact 1 t = (owns (c : Thread nD τ) (ms1 t) fullShare (iblk m c 1 t) : sProp 𝕄) := by
  unfold Dat.leavesExact; rw [show cfg0.idle 1 (cfg0.grid.coords t) = false from rfl, after1]
theorem leaves2 (c : Dev nD) (t : Fin cfg0.N) : (dats m 0 c).leavesExact 2 t = (owns (c : Thread nD τ) (ms2 t) fullShare (iblk m c 2 t) : sProp 𝕄) := by
  unfold Dat.leavesExact; rw [show cfg0.idle 2 (cfg0.grid.coords t) = false from rfl, after2]
theorem leaves3 (c : Dev nD) (t : Fin cfg0.N) : (dats m 0 c).leavesExact 3 t = (owns (c : Thread nD τ) (ms3 t) fullShare (yOf (iblk m c 1 t) (iblk m c 2 t) (codesTOf (xblk m c t)) (scalesTOf (xblk m c t))) : sProp 𝕄) := by
  unfold Dat.leavesExact; rw [show cfg0.idle 3 (cfg0.grid.coords t) = false from rfl, after3]
theorem leaves4_start (c : Dev nD) (t : Fin cfg0.N) (h : t.val % 7 = 0) : (dats m 0 c).leavesExact 4 t = (owns (c : Thread nD τ) (ms4 t) fullShare (codesOf (xblk m c t)) : sProp 𝕄) := by
  unfold Dat.leavesExact
  rw [show cfg0.idle 4 (cfg0.grid.coords t) = false from (idle4 t).trans (by rw [cond_true t h]; rfl), after4]
theorem leaves5_start (c : Dev nD) (t : Fin cfg0.N) (h : t.val % 7 = 0) : (dats m 0 c).leavesExact 5 t = (owns (c : Thread nD τ) (ms5 t) fullShare (scalesOf (xblk m c t)) : sProp 𝕄) := by
  unfold Dat.leavesExact
  rw [show cfg0.idle 5 (cfg0.grid.coords t) = false from (idle5 t).trans (by rw [cond_true t h]; rfl), after5]

/-- At another point the codes' window, untouched, holds what it must. -/
theorem leaves4_rest (c : Dev nD) (t : Fin cfg0.N) (h : ¬t.val % 7 = 0) (d) :
    (owns (c : Thread nD τ) (ms4 t) fullShare ((dats m 0 c).before 4 t d) : sProp 𝕄) ⊢ (dats m 0 c).leavesExact 4 t := by
  have hi : cfg0.idle 4 (cfg0.grid.coords t) = true := (idle4 t).trans (by rw [cond_false t h]; rfl)
  unfold Dat.leavesExact
  cases hf : (cfg0.win 4).flush t
  · rw [hi]
    dsimp only
    iintro H
    iexists d
    iexact H
  · rw [hi, after4, before4 m c d t.val t.isLt h]

/-- And the scales' window. -/
theorem leaves5_rest (c : Dev nD) (t : Fin cfg0.N) (h : ¬t.val % 7 = 0) (d) :
    (owns (c : Thread nD τ) (ms5 t) fullShare ((dats m 0 c).before 5 t d) : sProp 𝕄) ⊢ (dats m 0 c).leavesExact 5 t := by
  have hi : cfg0.idle 5 (cfg0.grid.coords t) = true := (idle5 t).trans (by rw [cond_false t h]; rfl)
  unfold Dat.leavesExact
  cases hf : (cfg0.win 5).flush t
  · rw [hi]
    dsimp only
    iintro H
    iexists d
    iexact H
  · rw [hi, after5, before5 m c d t.val t.isLt h]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- What the invariant hands the body at any point, contents forgotten. -/
theorem held_any (c : Dev nD) (t : Fin cfg0.N) : held m c t.val (Nat.le_of_lt t.isLt) ⊢ iprop(iprop((∃ d, owns (c : Thread nD τ) sc0 fullShare d) ∗ (∃ d, owns (c : Thread nD τ) sc1 fullShare d) ∗ (∃ d, owns (c : Thread nD τ) sc2 fullShare d)) ∗ (∃ r, prngReg (Val := Elt F) (Ix := Unit) (Name := ℕ) (U := UR sig nD τ) (Lvl := ℕ) c r)) := by
  by_cases hz : t.val = 0
  · rw [held_zero m c _ _ hz, found_eq]
  · rw [held_pos m c _ _ hz (Nat.lt_of_le_of_lt (Nat.sub_le _ _) t.isLt)]
    iintro ⟨⟨H0, H1, H2⟩, Hg⟩
    isplitl [H0 H1 H2]
    · isplitl [H0]; · iexists _; iexact H0
      isplitl [H1]; · iexists _; iexact H1
      iexact H2
    iexact Hg

set_option maxHeartbeats 2000000 in
/-- The body at a point that starts a block of rows. -/
theorem body_start (c : Dev nD) (t : Fin cfg0.N) (h0 : t.val % 7 = 0) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = held m c (t.val + 1) t.isLt from rfl, held_pos m c _ _ (Nat.succ_ne_zero _) t.isLt]
  rw [leaves0, leaves1, leaves2, leaves3, leaves4_start m c t h0, leaves5_start m c t h0, held_castSucc m c t]
  rw [show (⟨t.val + 1 - 1, t.isLt⟩ : Fin cfg0.N) = t from rfl]
  iintro ⟨HΦ, Ho, ⟨%d0, H0⟩, ⟨%d1, H1⟩, ⟨%d2, H2⟩, ⟨%d3, H3⟩, ⟨%d4, H4⟩, ⟨%d5, H5⟩⟩
  ihave HΦ2 := (held_any m c t) $$ HΦ
  icases HΦ2 with ⟨⟨HS0, HS1, HS2⟩, Hg⟩
  iapply (run_A c (grid0.coords t) _ _ _ _ _ _ _ _ _ _ _ _ _ _ _ _ _ _ ((starts t).mpr h0) (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- The body at any other point. -/
theorem body_rest (c : Dev nD) (t : Fin cfg0.N) (h0 : ¬t.val % 7 = 0) :
    bodyPre m c t ⊢ wp frame (wpE (defs₀ (F := F)) Variants.none c none) Set.univ (bodyAt0 t) (fun _ => bodyPost m c t) := by
  have hz : t.val ≠ 0 := fun e => h0 (by rw [e])
  have hp : t.val - 1 < cfg0.N := Nat.lt_of_le_of_lt (Nat.sub_le _ _) t.isLt
  unfold bodyPre bodyPost bodyAt0
  simp only [before0, before1, before2]
  rw [show (dats m 0 c).owesAt () t.succ = (dats m 0 c).owesAt () t.castSucc from rfl]
  rw [show (dats m 0 c).Φ t.succ = held m c (t.val + 1) t.isLt from rfl, held_pos m c _ _ (Nat.succ_ne_zero _) t.isLt]
  rw [leaves0, leaves1, leaves2, leaves3, held_castSucc m c t, held_pos m c _ _ hz hp, xblk_prev m c t h0 hp]
  rw [show (⟨t.val + 1 - 1, t.isLt⟩ : Fin cfg0.N) = t from rfl]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run_B c (grid0.coords t) _ _ _ _ _ _ _ _ (ms4 t) (hstage0_4 ((cfg0.slots t 4).cast nbuf0_4)) (ms5 t) (hstage0_5 ((cfg0.slots t 5).cast nbuf0_5)) _ _ _ _ _ _ (fun h => h0 ((starts t).mp h)) (iblk m c 0 t) (iblk m c 1 t) (iblk m c 2 t) _ _ Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]
  · iapply (leaves4_rest m c t h0 d4); iexact H4
  iapply (leaves5_rest m c t h0 d5); iexact H5

theorem sound_body (c : Dev nD) (t : Fin cfg0.N) :
    bodyPre m c t ⊢ wp frame (wpE (defs₀ (F := F)) Variants.none c none) Set.univ (bodyAt0 t) (fun _ => bodyPost m c t) := by
  by_cases h0 : t.val % 7 = 0
  · exact body_start m c t h0
  · exact body_rest m c t h0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point, -/
theorem hin (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

/-- and what is held after the last gives it back. -/
theorem hout (c : Dev nD) : (dats m 0 c).Φ (Fin.last cfg0.N) ⊢ Pipeline.ΦA spec0 c := by
  have hN : cfg0.N = 42 := N_0
  have hz : (Fin.last cfg0.N).val ≠ 0 := by rw [Fin.val_last]; omega
  rw [show (dats m 0 c).Φ (Fin.last cfg0.N) = held m c (Fin.last cfg0.N).val (Nat.le_of_lt_succ (Fin.last cfg0.N).isLt) from rfl,
    held_pos m c _ _ hz (by rw [Fin.val_last]; omega), found_eq]
  iintro ⟨⟨HS0, HS1, HS2⟩, Hg⟩
  isplitl [HS0 HS1 HS2]
  · isplitl [HS0]; · iexists _; iexact HS0
    isplitl [HS1]; · iexists _; iexact HS1
    iexact HS2
  iexact Hg

set_option backward.isDefEq.respectTransparency.types false in
set_option maxHeartbeats 800000 in
/-- Every run ends with every array of the pipeline at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run, the three results named and the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_v3_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, (h.1 c).1 5, h.2 c⟩)
    (θ_run_and (run_main m ρ) (unchanged m ρ))

end Cert.KernelIdeal.Hand

end
-- ==== Proof.KernelFrame.lean ====
module

public import proofs.«01_k».proof.Defs
public import proofs.«01_k».proof.Proof.Frame
public import proofs.«01_k».proof.Proof.Gen.Kernel

/-! # The kernel as printed for bit patterns

It is the same text as the kernel printed for extended reals, so the frame, proved for any values, is its frame too. -/

@[expose] public section

noncomputable section

namespace Cert.Kernel.Hand

open Idealize.ShloMosaic Idealize.ShloMosaic.TcCoe Idealize.SL.Sem

variable {F : FTy → Type} [FloatOps F]

theorem body_eq : (Cert.Kernel.cc0__kernel (F := F)) = Cert.KernelIdeal.cc0__kernel := rfl

theorem defs₀_eq : (Cert.Kernel.defs₀ (F := F)) = Cert.KernelIdeal.defs₀ := by
  unfold Cert.Kernel.defs₀ Cert.KernelIdeal.defs₀
  refine congrArg Defs.onTc ?_
  funext l a
  match l, a with
  | ⟨0, _⟩, (t, s) => rfl

theorem defs_eq : (Cert.Kernel.defs (F := F)) = Cert.KernelIdeal.defs := by
  unfold Cert.Kernel.defs Cert.KernelIdeal.defs
  rw [defs₀_eq]; rfl

theorem main_eq : (Cert.Kernel.main (F := F)) = Cert.KernelIdeal.main := rfl

set_option maxHeartbeats 2000000 in
/-- The frame of the kernel over bit patterns. -/
theorem frame : Cert.quiescent_Kernel (hKernel := Cert.Kernel.Gen.facts) := fun m g _ => by
  rw [defs_eq, main_eq]
  exact Cert.KernelIdeal.Hand.frame (F := Bits) m g

end Cert.Kernel.Hand

end
-- ==== Proof.Scalar.lean ====
module

public import Idealize.ShloMosaic.PureOps
public import Idealize.ShloMosaic.Lib.IdealHost

/-! # The power-of-two scale of a group, as the kernel and as the reference find it

The kernel finds the exponent of `a` by eight comparisons against powers of two; the reference takes the floor of a
logarithm. On `0 ≤ a < 2 ^ 126` the two give the same scale and the same inverse scale. -/

@[expose] public section

noncomputable section

namespace Cert.Quant

open Idealize.ShloMosaic

section Defs
variable {F : FTy → Type} [FloatOps F]

/-- One comparison of the search: bit `b` joins the exponent field `e` where `a` is at least the power of two that has
the field `e ||| b`. -/
def step (a : F .f32) (e b : BitVec 32) : BitVec 32 :=
  Scalar.select (FloatOps.cmpf .oge a (FloatOps.ofBits .f32 (IntOp.shli .vector (IntOp.ori e b) 23#32))) (IntOp.ori e b) e

/-- The exponent field of `a`, by eight comparisons. -/
def field (a : F .f32) : BitVec 32 :=
  step a (step a (step a (step a (step a (step a (step a (step a 0#32 128#32) 64#32) 32#32) 16#32) 8#32) 4#32) 2#32) 1#32

/-- Set where the scale is one: the field of a zero or a subnormal, or of an infinity. -/
def isUnit (a : F .f32) : BitVec 1 := IntOp.ori (IntOp.cmpi .eq (field a) 0#32) (IntOp.cmpi .eq (field a) 255#32)

/-- The kernel's scale. -/
def kScale (a : F .f32) : F .f32 :=
  FloatOps.ofBits .f32 (IntOp.shli .vector (Scalar.select (isUnit a) 127#32 (IntOp.addi (field a) 1#32)) 23#32)

/-- The kernel's inverse scale. -/
def kInv (a : F .f32) : F .f32 :=
  FloatOps.ofBits .f32 (IntOp.shli .vector (Scalar.select (isUnit a) 127#32 (IntOp.subi 253#32 (field a))) 23#32)

end Defs

/-- The reference's exponent, of the largest magnitude `x` and its 448th part `a`. -/
def rExp (x a : EReal) : EReal :=
  Scalar.select (Ideal.cmp .oeq x (Ideal.ofBits .f32 0x00000000#32)) 0
    (Ideal.liftRound Int.floor (Ideal.div (Ideal.log a) (Ideal.log (Ideal.ofBits .f32 0x40000000#32))) + 1)

/-- The reference's scale. -/
def rScale (x a : EReal) : EReal := Ideal.pow (Ideal.ofBits .f32 0x40000000#32) (rExp x a)

/-- The reference's inverse scale. -/
def rInv (x a : EReal) : EReal := Ideal.pow (Ideal.ofBits .f32 0x40000000#32) (-(rExp x a))

/-- The value of the pattern with exponent field `n` and nothing else. -/
def thr (n : ℕ) : EReal := Ideal.ofBits .f32 (BitVec.ofNat 32 n <<< 23)

theorem fields (n : Fin 256) : (BitVec.extractLsb' 31 1 (BitVec.ofNat 32 n <<< 23) == 1#1) = false ∧
    (BitVec.extractLsb' 23 8 (BitVec.ofNat 32 n.val <<< 23)).toNat = n ∧
    (BitVec.extractLsb' 0 23 (BitVec.ofNat 32 n.val <<< 23)).toNat = 0 := by
  revert n; decide

theorem thr_eq (n : ℕ) (h1 : 1 ≤ n) (h2 : n ≤ 254) : thr n = (((2 : ℝ) ^ ((n : ℤ) - 127) : ℝ) : EReal) := by
  obtain ⟨f1, f2, f3⟩ := fields ⟨n, by omega⟩
  simp only at f1 f2 f3
  unfold thr Ideal.ofBits Ideal.ieee
  simp only [f1, f2, f3, Nat.reduceAdd]
  rw [if_neg (by omega), if_neg (by omega)]
  refine EReal.coe_eq_coe_iff.2 ?_
  have : ((n : ℤ) - 127) = 23 + ((n : ℤ) - (2 ^ (8 - 1) - 1) - 23) := by norm_num
  rw [this, zpow_add₀ (by norm_num)]
  norm_num

theorem thr_zero : thr 0 = 0 := by simp [thr, Ideal.ofBits, Ideal.ieee]

theorem thr_top : thr 255 = ⊤ := by simp [thr, Ideal.ofBits, Ideal.ieee]

theorem step_eq (a : EReal) (n b : ℕ) (h : BitVec.ofNat 32 n ||| BitVec.ofNat 32 b = BitVec.ofNat 32 (n + b)) :
    step (F := Ideal) a (BitVec.ofNat 32 n) (BitVec.ofNat 32 b)
      = BitVec.ofNat 32 (if thr (n + b) ≤ a then n + b else n) := by
  have e : IntOp.shli .vector (IntOp.ori (BitVec.ofNat 32 n) (BitVec.ofNat 32 b)) 23#32 = BitVec.ofNat 32 (n + b) <<< 23 := by
    unfold IntOp.shli IntOp.ori
    rw [h, if_pos (by decide)]; rfl
  unfold step
  rw [e]
  show Scalar.select (Ideal.cmp .oge a (thr (n + b))) (IntOp.ori _ _) _ = _
  unfold IntOp.ori Ideal.cmp Scalar.select
  rw [h]
  by_cases hc : thr (n + b) ≤ a <;> simp [hc]

/-- What holds of the field found so far when the bits down to `b` are decided. -/
def Found (a : EReal) (b : ℕ) (e : BitVec 32) : Prop :=
  ∃ n : ℕ, e = BitVec.ofNat 32 n ∧ n % b = 0 ∧ n + b ≤ 256 ∧ thr n ≤ a ∧ (n + b < 256 → a < thr (n + b))

theorem or_eq (b : ℕ) (hb : b ∈ [128, 64, 32, 16, 8, 4, 2, 1]) (n : ℕ) (hn : n % (2 * b) = 0) (hl : n + 2 * b ≤ 256) :
    BitVec.ofNat 32 n ||| BitVec.ofNat 32 b = BitVec.ofNat 32 (n + b) := by
  have : ∀ b ∈ [128, 64, 32, 16, 8, 4, 2, 1], ∀ n : Fin 256, n.val % (2 * b) = 0 →
      BitVec.ofNat 32 n ||| BitVec.ofNat 32 b = BitVec.ofNat 32 (n + b) := by decide
  refine this b hb ⟨n, ?_⟩ hn
  rcases Nat.eq_zero_or_pos b with h | h
  · subst h; simp at hb
  · omega

theorem found_step (a : EReal) (b : ℕ) (hb : b ∈ [128, 64, 32, 16, 8, 4, 2, 1]) (e : BitVec 32) (h : Found a (2 * b) e) :
    Found a b (step (F := Ideal) a e (BitVec.ofNat 32 b)) := by
  obtain ⟨n, rfl, hn, hl, ht, hu⟩ := h
  rw [step_eq a n b (or_eq b hb n hn hl)]
  refine ⟨_, rfl, ?_⟩
  have hn' : n % b = 0 := Nat.mod_eq_zero_of_dvd ((Nat.dvd_mul_left b 2).trans (Nat.dvd_of_mod_eq_zero hn))
  split
  · next hc =>
    refine ⟨by simp [hn'], by omega, hc, fun h => ?_⟩
    have := hu (by omega)
    rwa [show n + b + b = n + 2 * b by omega]
  · next hc => exact ⟨hn', by omega, ht, fun _ => not_le.1 hc⟩

theorem field_found (a : EReal) (h : 0 ≤ a) : Found a 1 (field (F := Ideal) a) := by
  have h0 : Found a 256 0#32 := ⟨0, rfl, by simp, by simp, by rw [thr_zero]; exact h, by simp⟩
  unfold field
  refine found_step a 1 (by decide) _ ?_
  refine found_step a 2 (by decide) _ ?_
  refine found_step a 4 (by decide) _ ?_
  refine found_step a 8 (by decide) _ ?_
  refine found_step a 16 (by decide) _ ?_
  refine found_step a 32 (by decide) _ ?_
  refine found_step a 64 (by decide) _ ?_
  exact found_step a 128 (by decide) _ h0

theorem two_eq : Ideal.ofBits .f32 0x40000000#32 = ((2 : ℝ) : EReal) := by
  have := thr_eq 128 (by norm_num) (by norm_num)
  simpa [thr] using this

theorem tiny_eq : Ideal.ofBits .f32 0x00800000#32 = thr 1 := rfl

theorem pow_two (z : ℤ) : Ideal.pow ((2 : ℝ) : EReal) ((z : ℝ) : EReal) = (((2 : ℝ) ^ z : ℝ) : EReal) := by
  show ((Real.rpow 2 (z : ℝ) : ℝ) : EReal) = _
  congr 1
  exact Real.rpow_intCast 2 z

/-- The kernel's and the reference's exponents: zero for zero, else the exponent plus one. -/
theorem scale_cases (x a : EReal) (h0 : 0 ≤ a) (h1 : a < (((2 : ℝ) ^ (126 : ℤ) : ℝ) : EReal))
    (hx : x = 0 → a = 0) (h2 : x = 0 ∨ Ideal.ofBits .f32 0x00800000#32 ≤ a) :
    ∃ z : ℤ, rExp x a = ((z : ℝ) : EReal) ∧ kScale (F := Ideal) a = (((2 : ℝ) ^ z : ℝ) : EReal)
      ∧ kInv (F := Ideal) a = (((2 : ℝ) ^ (-z) : ℝ) : EReal) := by
  obtain ⟨n, hf, -, hl, ht, hu⟩ := field_found a h0
  have hn : n ≤ 252 := by
    by_contra hc
    have hge : (((2 : ℝ) ^ (126 : ℤ) : ℝ) : EReal) ≤ thr n := by
      rcases (by omega : n = 253 ∨ n = 254 ∨ n = 255) with rfl | rfl | rfl
      · rw [thr_eq _ (by norm_num) (by norm_num)]; norm_num
      · rw [thr_eq _ (by norm_num) (by norm_num)]
        exact EReal.coe_le_coe_iff.2 (zpow_le_zpow_right₀ (by norm_num) (by norm_num))
      · rw [thr_top]; exact le_top
    exact absurd (lt_of_lt_of_le h1 (hge.trans ht)) (lt_irrefl _)
  have hsh : ∀ m : ℕ, FloatOps.ofBits (F := Ideal) .f32 (IntOp.shli .vector (BitVec.ofNat 32 m) 23#32) = thr m := by
    intro m
    unfold IntOp.shli
    rw [if_pos (by decide)]; rfl
  have hu' := hu (by omega)
  rcases Nat.eq_zero_or_pos n with rfl | hpos
  · refine ⟨0, ?_, ?_, ?_⟩
    · unfold rExp
      have : x = 0 := h2.resolve_right fun h => absurd (h.trans_lt hu') (lt_irrefl _)
      rw [this, Ideal.ofBits_zero_f32]
      simp [Ideal.cmp, Scalar.select]
    · unfold kScale isUnit
      rw [hf]
      refine (hsh 127).trans ?_
      rw [thr_eq _ (by norm_num) (by norm_num)]; norm_num
    · unfold kInv isUnit
      rw [hf]
      refine (hsh 127).trans ?_
      rw [thr_eq _ (by norm_num) (by norm_num)]; norm_num
  · have hu1 : isUnit (F := Ideal) a = 0#1 := by
      have : ∀ n : Fin 253, 0 < n.val → IntOp.ori (IntOp.cmpi .eq (BitVec.ofNat 32 n) 0#32)
          (IntOp.cmpi .eq (BitVec.ofNat 32 n) 255#32) = 0#1 := by decide
      unfold isUnit
      rw [hf]
      exact this ⟨n, by omega⟩ hpos
    refine ⟨(n : ℤ) - 126, ?_, ?_, ?_⟩
    · rw [thr_eq n (by omega) (by omega)] at ht
      rw [thr_eq (n + 1) (by omega) (by omega)] at hu'
      obtain ⟨r, rfl⟩ : ∃ r : ℝ, a = (r : EReal) := by
        refine ⟨a.toReal, (EReal.coe_toReal ?_ ?_).symm⟩
        · exact (lt_of_lt_of_le h1 le_top).ne
        · rintro rfl; simp at h0
      have ht := EReal.coe_le_coe_iff.1 ht
      have hu' := EReal.coe_lt_coe_iff.1 hu'
      have hr : 0 < r := lt_of_lt_of_le (by positivity) ht
      have hl2p : 0 < Real.log 2 := Real.log_pos (by norm_num)
      have hfl : ⌊Real.log r / Real.log 2⌋ = (n : ℤ) - 127 := by
        rw [Int.floor_eq_iff, le_div_iff₀ hl2p, div_lt_iff₀ hl2p]
        constructor
        · rw [← Real.log_zpow]; exact Real.log_le_log (by positivity) ht
        · have : ((((n : ℤ) - 127 : ℤ) : ℝ) + 1) = (((n + 1 : ℕ) : ℤ) - 127 : ℤ) := by push_cast; ring
          rw [this, ← Real.log_zpow]; exact Real.log_lt_log hr hu'
      have hl2 : Real.log 2 ≠ 0 := (Real.log_pos (by norm_num)).ne'
      unfold rExp
      rw [two_eq, Ideal.ofBits_zero_f32]
      have hxne : ¬ x = 0 := fun h => hr.ne' (EReal.coe_eq_coe_iff.1 (hx h))
      have e1 : Ideal.log ((r : ℝ) : EReal) = ((Real.log r : ℝ) : EReal) := by
        show (if r ≤ 0 then ⊥ else _) = _
        rw [if_neg (not_le.2 hr)]
      have e2 : Ideal.log ((2 : ℝ) : EReal) = ((Real.log 2 : ℝ) : EReal) := by
        show (if (2 : ℝ) ≤ 0 then ⊥ else _) = _
        rw [if_neg (by norm_num)]
      rw [e1, e2, Ideal.div, if_neg (by rw [← EReal.coe_zero]; exact fun h => hl2 (EReal.coe_eq_coe_iff.1 h)),
        ← EReal.coe_inv, ← EReal.coe_mul, ← div_eq_mul_inv]
      have e3 : Ideal.liftRound Int.floor ((Real.log r / Real.log 2 : ℝ) : EReal) = (((⌊Real.log r / Real.log 2⌋ : ℤ) : ℝ) : EReal) := rfl
      rw [e3, hfl]
      have e4 : Ideal.cmp .oeq x 0 = 0#1 := by
        unfold Ideal.cmp
        simp only [decide_eq_false hxne]; rfl
      rw [e4]
      show ((((n : ℤ) - 127 : ℤ) : ℝ) : EReal) + 1 = _
      rw [← EReal.coe_one, ← EReal.coe_add]
      congr 1
      push_cast; ring
    · unfold kScale
      rw [hu1, hf]
      have : IntOp.addi (BitVec.ofNat 32 n) 1#32 = BitVec.ofNat 32 (n + 1) := by
        unfold IntOp.addi; rw [BitVec.ofNat_add]
      show FloatOps.ofBits (F := Ideal) .f32 (IntOp.shli .vector (IntOp.addi (BitVec.ofNat 32 n) 1#32) 23#32) = _
      rw [this, hsh, thr_eq _ (by omega) (by omega)]
      congr 2; push_cast; ring
    · unfold kInv
      rw [hu1, hf]
      have : ∀ n : Fin 253, IntOp.subi 253#32 (BitVec.ofNat 32 n) = BitVec.ofNat 32 (253 - n) := by decide
      show FloatOps.ofBits (F := Ideal) .f32 (IntOp.shli .vector (IntOp.subi 253#32 (BitVec.ofNat 32 n)) 23#32) = _
      rw [this ⟨n, by omega⟩, hsh, thr_eq _ (by simp only; omega) (by simp only; omega)]
      congr 2; push_cast [Nat.cast_sub (by omega : n ≤ 253)]; ring

theorem kScale_eq (x a : EReal) (h0 : 0 ≤ a) (h1 : a < (((2 : ℝ) ^ (126 : ℤ) : ℝ) : EReal))
    (hx : x = 0 → a = 0) (h2 : x = 0 ∨ Ideal.ofBits .f32 0x00800000#32 ≤ a) :
    kScale (F := Ideal) a = rScale x a := by
  obtain ⟨z, he, hs, -⟩ := scale_cases x a h0 h1 hx h2
  rw [hs, rScale, he, two_eq, pow_two]

theorem kInv_eq (x a : EReal) (h0 : 0 ≤ a) (h1 : a < (((2 : ℝ) ^ (126 : ℤ) : ℝ) : EReal))
    (hx : x = 0 → a = 0) (h2 : x = 0 ∨ Ideal.ofBits .f32 0x00800000#32 ≤ a) :
    kInv (F := Ideal) a = rInv x a := by
  obtain ⟨z, he, -, hi⟩ := scale_cases x a h0 h1 hx h2
  rw [hi, rInv, he, two_eq, ← EReal.coe_neg, ← Int.cast_neg, pow_two]

end Cert.Quant
end
-- ==== Proof.Spec.lean ====
module

public import proofs.«01_k».proof.Proof.Scalar
public import Idealize.ShloMosaic.Lib.Pointwise

/-! # The quantised product, element by element

What both programs compute, over the extended reals: a row of 2816 values is cut in 22 groups of 128, each group has one
power-of-two scale, and an output element is the sum over the groups of the products of the codes, each times the two
scales of its group. -/

@[expose] public section

noncomputable section

namespace Cert.Quant

open Idealize.ShloMosaic

/-- The largest magnitude in a group. -/
def amax (f : Fin 128 → EReal) : EReal :=
  Finset.fold max (Ideal.ofBits .bf16 0xFF80#16) (fun k => max (f k) (-(f k))) Finset.univ

/-- The largest magnitude over 448: what the scale is taken from. -/
def level (f : Fin 128 → EReal) : EReal := amax f * Ideal.ofBits .f32 0x3B124925#32

/-- The code of element `k` of a group. -/
def code (f : Fin 128 → EReal) (k : Fin 128) : EReal :=
  min (Ideal.ofBits .f32 0x43E00000#32) (max (Ideal.ofBits .f32 0xC3E00000#32) (f k * rInv (amax f) (level f)))

/-- The scale of a group. -/
def scale (f : Fin 128 → EReal) : EReal := rScale (amax f) (level f)

/-- Group `g` of a row. -/
def group (x : Fin 2816 → EReal) (g : Fin 22) (k : Fin 128) : EReal := x ⟨128 * g.val + k.val, by omega⟩

/-- An output element: of a row `w` of weights with the scales `s` of its groups, and a row `x`. -/
def out (w : Fin 2816 → EReal) (s : Fin 22 → EReal) (x : Fin 2816 → EReal) : EReal :=
  ∑ g : Fin 22, (∑ k : Fin 128, group w g k * code (group x g) k) * (scale (group x g) * s g)

/-! ## The three results, of the three arguments -/

section Results
variable (x : Vec Ideal ⟨3, ![3, 2048, 2816]⟩ .bf16) (w : Vec Ideal ⟨2, ![3584, 2816]⟩ .fp8e4m3)
  (ws : Vec Ideal ⟨2, ![28, 22]⟩ .f32)

/-- Row `r` of the activations, batches one after another. -/
def xRow (r : Fin 6144) (d : Fin 2816) : EReal :=
  x (ix3 (⟨r.val / 2048, by omega⟩ : Fin 3) (⟨r.val % 2048, Nat.mod_lt _ (by norm_num)⟩ : Fin 2048) d)

/-- Row `n` of the weights. -/
def wRow (n : Fin 3584) (d : Fin 2816) : EReal := w (ix2 n d)

/-- The scales of row `n` of the weights. -/
def wsRow (n : Fin 3584) (g : Fin 22) : EReal := ws (ix2 (⟨n.val / 128, by omega⟩ : Fin 28) g)

/-- The products. -/
def products : Vec Ideal ⟨2, ![6144, 3584]⟩ .bf16 := fun i => out (wRow w (i 1)) (wsRow ws (i 1)) (xRow x (i 0))

/-- The codes. -/
def codes : Vec Ideal ⟨2, ![6144, 2816]⟩ .fp8e4m3 := fun i =>
  code (group (xRow x (i 0)) (⟨(i 1).val / 128, by have : (i 1).val < 2816 := (i 1).isLt; omega⟩ : Fin 22))
    (⟨(i 1).val % 128, Nat.mod_lt _ (by norm_num)⟩ : Fin 128)

/-- The scales. -/
def scales : Vec Ideal ⟨2, ![6144, 22]⟩ .f32 := fun i => scale (group (xRow x (i 0)) (i 1))

end Results

/-! ## Where the precondition enters -/

/-- The largest magnitude allowed. -/
def bound : EReal := Ideal.ofBits .f32 0x7F7F0000#32

/-- What is asked of a group: its largest magnitude is at most `bound` and, unless it is zero, its 448th part is at least
the smallest normal number. -/
def Normal (f : Fin 128 → EReal) : Prop := amax f ≤ bound ∧ (amax f = 0 ∨ Ideal.ofBits .f32 0x00800000#32 ≤ level f)

theorem ofBits_neg_inf_bf16 : Ideal.ofBits .bf16 0xFF80#16 = ⊥ := by
  unfold Ideal.ofBits Ideal.ieee
  simp

theorem ofBits_neg_inf_f32 : Ideal.ofBits .f32 0xFF800000#32 = ⊥ := by
  unfold Ideal.ofBits Ideal.ieee
  simp

theorem weight_eq : ∃ q : ℝ, Ideal.ofBits .f32 0x3B124925#32 = ((q : ℝ) : EReal) ∧ 0 ≤ q ∧ q ≤ 1 / 256 := by
  have e1 : (BitVec.extractLsb' 31 1 0x3B124925#32 == 1#1) = false := by decide
  have e2 : (BitVec.extractLsb' 23 8 0x3B124925#32).toNat = 118 := by decide
  have e3 : (BitVec.extractLsb' 0 23 0x3B124925#32).toNat = 1198373 := by decide
  unfold Ideal.ofBits Ideal.ieee
  simp only [Nat.reduceAdd, e1, e2, e3]
  rw [if_neg (by norm_num), if_neg (by norm_num)]
  exact ⟨_, rfl, by norm_num, by norm_num⟩

theorem bound_lt : ∃ q : ℝ, bound = ((q : ℝ) : EReal) ∧ 0 ≤ q ∧ q < 2 ^ 128 := by
  have e1 : (BitVec.extractLsb' 31 1 0x7F7F0000#32 == 1#1) = false := by decide
  have e2 : (BitVec.extractLsb' 23 8 0x7F7F0000#32).toNat = 254 := by decide
  have e3 : (BitVec.extractLsb' 0 23 0x7F7F0000#32).toNat = 8323072 := by decide
  unfold bound Ideal.ofBits Ideal.ieee
  simp only [Nat.reduceAdd, e1, e2, e3]
  rw [if_neg (by norm_num), if_neg (by norm_num)]
  exact ⟨_, rfl, by norm_num, by norm_num⟩

theorem abs_nonneg (a : EReal) : 0 ≤ max a (-a) := by
  rcases le_total 0 a with h | h
  · exact le_max_of_le_left h
  · exact le_max_of_le_right (by rwa [EReal.neg_nonneg])

theorem amax_nonneg (f : Fin 128 → EReal) : 0 ≤ amax f :=
  (Finset.le_fold_max _).2 (.inr ⟨0, Finset.mem_univ _, abs_nonneg _⟩)

theorem level_nonneg (f : Fin 128 → EReal) : 0 ≤ level f := by
  obtain ⟨q, hq, h0, _⟩ := weight_eq
  unfold level
  rw [hq]
  exact mul_nonneg (amax_nonneg f) (EReal.coe_nonneg.2 h0)

theorem level_of_amax (f : Fin 128 → EReal) (h : amax f = 0) : level f = 0 := by
  unfold level; rw [h, zero_mul]

theorem level_lt (f : Fin 128 → EReal) (ha : amax f ≤ bound) :
    level f < (((2 : ℝ) ^ (126 : ℤ) : ℝ) : EReal) := by
  obtain ⟨q, hq, h0, h1⟩ := weight_eq
  obtain ⟨b, hb, b0, b1⟩ := bound_lt
  unfold level
  rw [hq]
  refine (mul_le_mul_of_nonneg_right ha (EReal.coe_nonneg.2 h0)).trans_lt ?_
  rw [hb, ← EReal.coe_mul, EReal.coe_lt_coe_iff]
  have : b * q ≤ 2 ^ 128 * (1 / 256) := mul_le_mul b1.le h1 h0 (by positivity)
  refine this.trans_lt ?_
  norm_num

theorem normal_of_zero {f : Fin 128 → EReal} (h : amax f = 0) : Normal f := by
  obtain ⟨q, hq, h0, _⟩ := bound_lt
  exact ⟨by rw [h, hq]; exact EReal.coe_nonneg.2 h0, .inl h⟩

/-- On such a group the kernel's scale is the reference's. -/
theorem Normal.kScale_eq {f : Fin 128 → EReal} (h : Normal f) : kScale (F := Ideal) (level f) = rScale (amax f) (level f) :=
  Quant.kScale_eq _ _ (level_nonneg f) (level_lt f h.1) (level_of_amax f) h.2

/-- And so is its inverse. -/
theorem Normal.kInv_eq {f : Fin 128 → EReal} (h : Normal f) : kInv (F := Ideal) (level f) = rInv (amax f) (level f) :=
  Quant.kInv_eq _ _ (level_nonneg f) (level_lt f h.1) (level_of_amax f) h.2

end Cert.Quant

end
-- ==== Proof.KernelVal.lean ====
module

public import proofs.«01_k».proof.Proof.Loop
public import proofs.«01_k».proof.Proof.Tiles
public import proofs.«01_k».proof.Proof.Spec
public import Idealize.ShloMosaic.Lib.Pointwise

/-! # What a grid point computes, element by element

The blocks that the frame names, read at an index over the extended reals: they are the codes, the scales and the
products of `Cert.Quant`. -/

@[expose] public section

set_option maxRecDepth 16384

noncomputable section

namespace Cert.KernelIdeal.Hand

open Idealize.ShloMosaic Idealize.ShloMosaic.TcCoe Idealize.ShloMosaic.Pointwise Cert.KernelIdeal.Gen Cert.Quant

/-! ## One group of 128 columns -/

section Group
variable (v : Vec Ideal S256x128 .bf16) (r : Fin 256) (f : Fin 128 → EReal) (hf : ∀ k, v (ix2 r k) = f k)
include hf

theorem level_val : k0_pay2 v (ix2 r (0 : Fin 1)) = level f := by
  pointwise [k0_pay2, k0_pay1]
  simp only [hf]
  rfl

variable (hb : Normal f)
include hb

theorem qScale_val : qScale v (ix2 r (0 : Fin 1)) = scale f := by
  have h : qScale v (ix2 r (0 : Fin 1)) = kScale (F := Ideal) (k0_pay2 v (ix2 r 0)) := rfl
  rw [h, level_val v r f hf]
  exact hb.kScale_eq

theorem qClip_val (k : Fin 128) : qClip v (ix2 r k) = code f k := by
  have h : qClip v (ix2 r k) = min (Ideal.ofBits .f32 0x43E00000#32) (max (Ideal.ofBits .f32 0xC3E00000#32)
      (v (ix2 r k) * kInv (F := Ideal) (k0_pay2 v (ix2 r 0)))) := by
    pointwise [qClip, k0_pay10, k0_pay9, k0_pay1]
    rfl
  rw [h, level_val v r f hf, hf, hb.kInv_eq]
  rfl

theorem qCode_val (k : Fin 128) : qCode v (ix2 r k) = code f k := by
  rw [← qClip_val v r f hf hb k]
  rfl

theorem qCodeT_val (k : Fin 128) : qCodeT v (ix2 k r) = code f k := by
  rw [← qClip_val v r f hf hb k]
  pointwise [qCodeT]

end Group

theorem qScales_apply (b : Fin 22 → Vec Ideal S256x128 .bf16) (r : Fin 256) (g : Fin 22) :
    qScales b (ix2 r g) = qScale (b g) (ix2 r (0 : Fin 1)) := by
  have h := concatenates_S256x1_S256x1_S256x1_S256x1_S256x1_S256x1_S256x1_S256x1_S256x1_S256x1_S256x1_S256x1_S256x1_S256x1_S256x1_S256x1_S256x1_S256x1_S256x1_S256x1_S256x1_S256x1_S256x22_d1
  refine concatenate_ofFn_unit_apply (t := S256x22) (s₁ := S256x1) 1 (fun n => qScale (b n)) h rfl rfl (ix2 r g) g rfl (ix2 r 0) ?_
  intro a ha
  fin_cases a
  · rfl
  · exact absurd rfl ha

theorem pad_val (s : FVec Ideal S256x22 .f32) (g : Fin 24) (h : g.val < 22) (r : Fin 256) :
    k0_pay253 s (ix2 g r) = s (ix2 r (⟨g.val, h⟩ : Fin 22)) := by
  pointwise [k0_pay253]
  rw [dif_pos h]

/-! ## A block of 1024 rows -/

section Block
variable (x : Vec Ideal S1024x2816 .bf16) (r : Fin 1024) (X : Fin 2816 → EReal) (hX : ∀ d, x (ix2 r d) = X d)
include hX

theorem sub_val (g : Fin 22) (k : Fin 128) (h1 : r.val / 256 < 4) :
    sub x (r.val / 256) g.val h1 g.isLt (ix2 (⟨r.val % 256, Nat.mod_lt _ (by norm_num)⟩ : Fin 256) k) = group X g k := by
  refine Eq.trans ?_ (hX ⟨128 * g.val + k.val, by omega⟩)
  refine congrArg x (funext fun a => Fin.ext ?_)
  match a with
  | ⟨0, _⟩ => show 256 * (r.val / 256) + r.val % 256 = r.val; omega
  | ⟨1, _⟩ => rfl

variable (hb : ∀ g, Normal (group X g))
include hb

theorem codesOf_val (g : Fin 22) (k : Fin 128) (d : Fin 2816) (hd : d.val = 128 * g.val + k.val) :
    codesOf x (ix2 r d) = code (group X g) k := by
  have h1 : r.val / 256 < 4 := by omega
  refine (codesOf_at x (ix2 r d) (r.val / 256) g.val h1 g.isLt
    (ix2 (⟨r.val % 256, Nat.mod_lt _ (by norm_num)⟩ : Fin 256) k) ?_ hd).trans ?_
  · show r.val = 256 * (r.val / 256) + r.val % 256; omega
  · exact qCode_val _ _ _ (fun k => sub_val x r X hX g k h1) (hb _) k

theorem codesTOf_val (g : Fin 22) (k : Fin 128) (d : Fin 2816) (hd : d.val = 128 * g.val + k.val) :
    codesTOf x (ix2 d r) = code (group X g) k := by
  have h1 : r.val / 256 < 4 := by omega
  refine (codesTOf_at x (ix2 d r) (r.val / 256) g.val h1 g.isLt
    (ix2 k (⟨r.val % 256, Nat.mod_lt _ (by norm_num)⟩ : Fin 256)) hd ?_).trans ?_
  · show r.val = 256 * (r.val / 256) + r.val % 256; omega
  · exact qCodeT_val _ _ _ (fun k => sub_val x r X hX g k h1) (hb _) k

theorem scalesOf_val (g : Fin 22) : scalesOf x (ix2 r g) = scale (group X g) := by
  have h1 : r.val / 256 < 4 := by omega
  refine (scalesOf_at x (ix2 r g) (r.val / 256) h1
    (ix2 (⟨r.val % 256, Nat.mod_lt _ (by norm_num)⟩ : Fin 256) g) ?_ rfl).trans ?_
  · show r.val = 256 * (r.val / 256) + r.val % 256; omega
  · exact (qScales_apply _ _ _).trans (qScale_val _ _ _ (fun k => sub_val x r X hX g k h1) (hb _))

theorem scalesTOf_val (g : Fin 22) : scalesTOf x (ix2 (⟨g.val, by omega⟩ : Fin 24) r) = scale (group X g) := by
  have h1 : r.val / 256 < 4 := by omega
  refine (scalesTOf_at x (ix2 (⟨g.val, by omega⟩ : Fin 24) r) (r.val / 256) h1
    (ix2 (⟨g.val, by omega⟩ : Fin 24) (⟨r.val % 256, Nat.mod_lt _ (by norm_num)⟩ : Fin 256)) rfl ?_).trans ?_
  · show r.val = 256 * (r.val / 256) + r.val % 256; omega
  · exact (pad_val _ _ g.isLt _).trans
      ((qScales_apply _ _ _).trans (qScale_val _ _ _ (fun k => sub_val x r X hX g k h1) (hb _)))

end Block

/-! ## The products -/

theorem term_val (w : Vec Ideal S128x128 .fp8e4m3) (ct : Vec Ideal S128x256 .fp8e4m3) (s : Vec Ideal S1x256 .f32)
    (n : Fin 128) (r : Fin 256) :
    term (F := Ideal) w ct s (ix2 n r) = (∑ k : Fin 128, w (ix2 n k) * ct (ix2 k r)) * s (ix2 (0 : Fin 1) r) := by
  pointwise [term]

theorem tile_val (w : Fin 22 → Vec Ideal S128x128 .fp8e4m3) (ct : Fin 22 → Vec Ideal S128x256 .fp8e4m3)
    (s : Fin 22 → Vec Ideal S1x256 .f32) (r : Fin 256) (n : Fin 128) :
    tile (F := Ideal) w ct s (ix2 r n) = ∑ g : Fin 22, term (w g) (ct g) (s g) (ix2 n r) := by
  pointwise [tile]
  simp only [Fin.sum_univ_succ, Fin.sum_univ_zero, add_zero, add_assoc]
  rfl

theorem k_val (x2 : Vec Ideal S96x1 .f32) (st : Vec Ideal S24x1024 .f32) (nb : Fin 4) (g : Fin 22) (r : Fin 1024)
    (h : 24 * nb.val + g.val < 96) :
    kOf x2 st (ix2 (⟨24 * nb.val + g.val, h⟩ : Fin 96) r)
      = st (ix2 (⟨g.val, by omega⟩ : Fin 24) r) * x2 (ix2 (⟨24 * nb.val + g.val, h⟩ : Fin 96) (0 : Fin 1)) := by
  refine (kOf_at x2 st _ nb (ix2 (⟨g.val, by omega⟩ : Fin 24) r) rfl rfl).trans ?_
  pointwise [k0_pay254]

theorem yOf_val (x1 : Vec Ideal S512x2816 .fp8e4m3) (x2 : Vec Ideal S96x1 .f32) (x : Vec Ideal S1024x2816 .bf16)
    (r : Fin 1024) (n : Fin 512) (X W : Fin 2816 → EReal) (s : Fin 22 → EReal)
    (hX : ∀ d, x (ix2 r d) = X d) (hb : ∀ g, Normal (group X g)) (hW : ∀ d, x1 (ix2 n d) = W d)
    (hs : ∀ g : Fin 22, x2 (ix2 (⟨24 * (n.val / 128) + g.val, by omega⟩ : Fin 96) (0 : Fin 1)) = s g) :
    yOf x1 x2 (codesTOf x) (scalesTOf x) (ix2 r n) = out W s X := by
  refine (yOf_at x1 x2 _ _ (ix2 r n) (⟨n.val / 128, by omega⟩ : Fin 4) (⟨r.val / 256, by omega⟩ : Fin 4)
    (ix2 (⟨r.val % 256, Nat.mod_lt _ (by norm_num)⟩ : Fin 256) (⟨n.val % 128, Nat.mod_lt _ (by norm_num)⟩ : Fin 128)) ?_ ?_).trans ?_
  · show r.val = 256 * (r.val / 256) + r.val % 256; omega
  · show n.val = 128 * (n.val / 128) + n.val % 128; omega
  refine (tile_val _ _ _ _ _).trans (Finset.sum_congr rfl fun g _ => ?_)
  refine (term_val _ _ _ _ _).trans ?_
  have er : (⟨256 * (r.val / 256) + r.val % 256, by omega⟩ : Fin 1024) = r := Fin.ext (by show 256 * (r.val / 256) + r.val % 256 = r.val; omega)
  have en : (⟨128 * (n.val / 128) + n.val % 128, by omega⟩ : Fin 512) = n := Fin.ext (by show 128 * (n.val / 128) + n.val % 128 = n.val; omega)
  refine congr (congrArg HMul.hMul (Finset.sum_congr rfl fun k _ => congr (congrArg HMul.hMul ?_) ?_)) ?_
  · exact (congrArg (fun a => x1 (ix2 a ⟨128 * g.val + k.val, by omega⟩)) en).trans (hW _)
  · exact (congrArg (fun a => codesTOf x (ix2 ⟨128 * g.val + k.val, by omega⟩ a)) er).trans
      (codesTOf_val x r X hX hb g k _ rfl)
  · refine (congrArg (fun a => kOf x2 (scalesTOf x) (ix2 (⟨24 * (n.val / 128) + g.val, by omega⟩ : Fin 96) a)) er).trans ?_
    refine (k_val x2 _ (⟨n.val / 128, by omega⟩ : Fin 4) g r _).trans ?_
    rw [scalesTOf_val x r X hX hb g, hs g]

end Cert.KernelIdeal.Hand

end
-- ==== Proof.KernelArr.lean ====
module

public import proofs.«01_k».proof.Proof.Frame
public import proofs.«01_k».proof.Proof.KernelVal
public import Idealize.ShloMosaic.Lib.StableHlo.ReadAt
public import Idealize.ShloMosaic.Lib.Pipeline.ValueKit.Geometry

/-! # The kernel's result arrays

The blocks of the grid points, put together, are the three results of `Cert.Quant`. -/

@[expose] public section

set_option maxRecDepth 16384

noncomputable section

namespace Cert.KernelIdeal.Hand

open Idealize.ShloMosaic Idealize.ShloMosaic.TcCoe Idealize.ShloMosaic.Pointwise Cert.KernelIdeal.Gen Cert.Quant Idealize.SL.Sem

variable (m : (ℓ : Loc nD τ sig) → Buf (Elt Ideal) ℓ) (c : Dev nD)

/-! ## What the region finds in its operands -/

theorem V_x (r : Fin 6144) (d : Fin 2816) :
    V m c main_v2 (ix2 r d) = xRow (m ((c : Thread nD τ).loc main_arg0)) r d := by
  unfold V xRow
  after_reads_at

theorem V_ws (n : Fin 672) (b : Fin 28) (g : Fin 22) (h : n.val = 24 * b.val + g.val) :
    V m c main_v1 (ix2 n (0 : Fin 1)) = m ((c : Thread nD τ).loc main_arg2) (ix2 b g) := by
  have h1 : n.val / 24 = b.val := by omega
  have h2 : n.val % 24 = g.val := by omega
  unfold V
  after_reads_at
  rw [dif_pos ⟨by omega, by omega⟩]
  exact congrArg (m (c, Proc.tc.devRef main_arg2)) (congr (congrArg ix2 (Fin.ext h1)) (Fin.ext h2))

theorem idx0 : ∀ t : Fin cfg0.N, win0_0.index t = ![t.val / 7, 0] := (by decide +kernel : ∀ t : Fin grid0.N, _)
theorem idx1 : ∀ t : Fin cfg0.N, win0_1.index t = ![t.val % 7, 0] := (by decide +kernel : ∀ t : Fin grid0.N, _)
theorem idx2 : ∀ t : Fin cfg0.N, win0_2.index t = ![t.val % 7, 0] := (by decide +kernel : ∀ t : Fin grid0.N, _)
theorem idx3 : ∀ t : Fin cfg0.N, win0_3.index t = ![t.val / 7, t.val % 7] := (by decide +kernel : ∀ t : Fin grid0.N, _)
theorem idx4 : ∀ t : Fin cfg0.N, win0_4.index t = ![t.val / 7, 0] := (by decide +kernel : ∀ t : Fin grid0.N, _)
theorem idx5 : ∀ t : Fin cfg0.N, win0_5.index t = ![t.val / 7, 0] := (by decide +kernel : ∀ t : Fin grid0.N, _)

theorem xblk_val (t : Fin cfg0.N) (r : Fin 1024) (d : Fin 2816) (R : Fin 6144) (hR : R.val = 1024 * (t.val / 7) + r.val) :
    xblk m c t (ix2 r d) = xRow (m ((c : Thread nD τ).loc main_arg0)) R d := by
  refine Eq.trans ?_ (V_x m c R d)
  unfold xblk
  blk_simp [iblk, idx0]
  refine congrArg (V m c main_v2) ?_
  blk_ext [idx0]

theorem wblk_val (t : Fin cfg0.N) (n : Fin 512) (d : Fin 2816) (n' : Fin 3584) (hn : n'.val = 512 * (t.val % 7) + n.val) :
    iblk m c 1 t (ix2 n d) = wRow (m ((c : Thread nD τ).loc main_arg1)) n' d := by
  unfold wRow
  rw [← V_main_arg1 m c]
  blk_simp [iblk, idx1]
  refine congrArg (V m c main_arg1) ?_
  blk_ext [idx1]

theorem wsblk_val (t : Fin cfg0.N) (n : Fin 96) (b : Fin 4) (g : Fin 22) (h : n.val = 24 * b.val + g.val) (n' : Fin 3584)
    (hn : n'.val / 128 = 4 * (t.val % 7) + b.val) :
    iblk m c 2 t (ix2 n (0 : Fin 1)) = wsRow (m ((c : Thread nD τ).loc main_arg2)) n' g := by
  refine Eq.trans ?_ (V_ws m c (⟨96 * (t.val % 7) + n.val, by omega⟩ : Fin 672) (⟨n'.val / 128, by omega⟩ : Fin 28) g ?_)
  · blk_simp [iblk, idx2]
    refine congrArg (V m c main_v1) ?_
    blk_ext [idx2]
  · show 96 * (t.val % 7) + n.val = 24 * (n'.val / 128) + g.val
    omega

/-! ## The results -/

/-- Every group of the activations is such as the precondition asks. -/
def AllNormal : Prop := ∀ r g, Normal (group (xRow (m ((c : Thread nD τ).loc main_arg0)) r) g)

variable (hb : AllNormal m c)
include hb

theorem arr3 : (dats m 0 c).arrAt 3 cfg0.N = products (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after3]
  have ht : t.val < 42 := t.isLt
  obtain ⟨r, n, rfl⟩ : ∃ (r : Fin 1024) (n : Fin 512), y = ix2 r n := ⟨y 0, y 1, eq_ix2 y⟩
  have e : (win0_3.blk t).view.emb (ix2 r n) = ix2 (⟨1024 * (t.val / 7) + r.val, by omega⟩ : Fin 6144) (⟨512 * (t.val % 7) + n.val, by omega⟩ : Fin 3584) := by
    blk_ext [idx3]
  rw [e]
  exact yOf_val _ _ _ r n _ _ _ (fun d => xblk_val m c t r d _ rfl) (fun g => hb _ g) (fun d => wblk_val m c t n d _ rfl)
    (fun g => wsblk_val m c t _ (⟨n.val / 128, by omega⟩ : Fin 4) g rfl _ (by show (512 * (t.val % 7) + n.val) / 128 = 4 * (t.val % 7) + n.val / 128; omega))

theorem arr4 : (dats m 0 c).arrAt 4 cfg0.N = codes (m ((c : Thread nD τ).loc main_arg0)) := by
  refine (dats m 0 c).arrAt_eq_of_covers 4 _ (by decide +kernel) fun t hf y => ?_
  blk_simp
  rw [after4]
  have ht : t.val < 42 := t.isLt
  obtain ⟨r, d, rfl⟩ : ∃ (r : Fin 1024) (d : Fin 2816), y = ix2 r d := ⟨y 0, y 1, eq_ix2 y⟩
  have e : (win0_4.blk t).view.emb (ix2 r d) = ix2 (⟨1024 * (t.val / 7) + r.val, by omega⟩ : Fin 6144) d := by
    blk_ext [idx4]
  rw [e]
  exact codesOf_val _ r _ (fun d => xblk_val m c t r d _ rfl) (fun g => hb _ g) _ _ d
    (by show d.val = 128 * (d.val / 128) + d.val % 128; omega)

theorem arr5 : (dats m 0 c).arrAt 5 cfg0.N = scales (m ((c : Thread nD τ).loc main_arg0)) := by
  refine (dats m 0 c).arrAt_eq_of_covers 5 _ (by decide +kernel) fun t hf y => ?_
  blk_simp
  rw [after5]
  have ht : t.val < 42 := t.isLt
  obtain ⟨r, g, rfl⟩ : ∃ (r : Fin 1024) (g : Fin 22), y = ix2 r g := ⟨y 0, y 1, eq_ix2 y⟩
  have e : (win0_5.blk t).view.emb (ix2 r g) = ix2 (⟨1024 * (t.val / 7) + r.val, by omega⟩ : Fin 6144) g := by
    blk_ext [idx5]
  rw [e]
  exact scalesOf_val _ r _ (fun d => xblk_val m c t r d _ rfl) (fun g => hb _ g) g

end Cert.KernelIdeal.Hand

end
-- ==== Proof.RefArr.lean ====
module

public import proofs.«01_k».proof.Proof.Gen.ReferenceIdeal.Value
public import proofs.«01_k».proof.Proof.Spec
public import Idealize.ShloMosaic.Lib.StableHlo.ReadAt
public import Idealize.ShloMosaic.Lib.Pipeline.ValueKit.Geometry
public import Idealize.ShloMosaic.Lib.Pipeline.ValueKit.Acc

/-! # The reference's results

The host's quantiser and the products computed from it, read at an index, are the three results of `Cert.Quant`. -/

@[expose] public section

set_option maxRecDepth 16384

noncomputable section

namespace Cert.ReferenceIdeal.Hand

open Idealize.ShloMosaic Idealize.ShloMosaic.TcCoe Idealize.ShloMosaic.Pointwise Cert.ReferenceIdeal Cert.ReferenceIdeal.Gen Cert.Quant Idealize.SL.Sem

variable (m : (ℓ : Loc nD τ sig) → Buf (Elt Ideal) ℓ) (c : Dev nD)

/-! ## The host's operations, in three stretches: before the maximum, the maximum, after it -/

theorem after_append {Val : EltTy → Type} (l₁ l₂ : List (HloOp τ sig Val)) (U : Valuation τ sig Val) :
    StableHlo.after (l₁ ++ l₂) U = StableHlo.after l₂ (StableHlo.after l₁ U) := by
  induction l₁ generalizing U with
  | nil => rfl
  | cons op l ih => exact ih _

/-- The maximum over a group. -/
abbrev maxOp {F : FTy → Type} [FloatOps F] : HloOp τ sig (Elt F) :=
  StableHlo.binary main_v2 main_cst main_v3 ((fun x v => Host.reduce FloatOps.maximumf x v reducesTo_S6144x22x128_S6144x22_d2 h_S_) : (⟨S6144x22x128, .f32⟩ : BufTy).Contents (Elt F) → (⟨S_, .f32⟩ : BufTy).Contents (Elt F) → (⟨S6144x22, .f32⟩ : BufTy).Contents (Elt F))

/-- What follows it. -/
abbrev restOps : List (HloOp τ sig (Elt Ideal)) :=
  List.drop 5 hostOps0 ++ (hostOps0_1 ++ (hostOps0_2 ++ (hostOps0_3 ++ hostOps0_4)))

/-- The buffers once the maximum is there. -/
def mid : Valuation τ sig (Elt Ideal) := StableHlo.after [maxOp] (StableHlo.after (List.take 4 hostOps0) (fun b => m (c, b)))

theorem ops_eq : List.flatten [hostOps0 (F := Ideal), hostOps0_1, hostOps0_2, hostOps0_3, hostOps0_4] = List.take 4 hostOps0 ++ ([maxOp] ++ restOps) := rfl

theorem V_eq (b : Ref sig .tc) : V m c b = StableHlo.after restOps (mid m c) (Proc.devRef .tc b) := by
  unfold V mid
  rw [ops_eq, after_append, after_append]

section Stretches
variable (U : Valuation τ sig (Elt Ideal))

theorem head_abs (r : Fin 6144) (g : Fin 22) (k : Fin 128) (d : Fin 2816) (hd : d.val = g.val * 128 + k.val) :
    StableHlo.after (List.take 4 hostOps0) U (Proc.devRef .tc main_v2) (ix3 r g k)
      = max (xRow (U (Proc.devRef .tc main_arg0)) r d) (-(xRow (U (Proc.devRef .tc main_arg0)) r d)) := by
  obtain ⟨d, h⟩ := d
  obtain rfl : d = g.val * 128 + k.val := hd
  unfold xRow
  simp only [hostOps0, List.take_succ_cons, List.take_zero]
  after_reads_at
  rfl

theorem head_x (r : Fin 6144) (g : Fin 22) (k : Fin 128) (d : Fin 2816) (hd : d.val = g.val * 128 + k.val) :
    StableHlo.after (List.take 4 hostOps0) U (Proc.devRef .tc main_v1) (ix3 r g k) = xRow (U (Proc.devRef .tc main_arg0)) r d := by
  obtain ⟨d, h⟩ := d
  obtain rfl : d = g.val * 128 + k.val := hd
  unfold xRow
  simp only [hostOps0, List.take_succ_cons, List.take_zero]
  after_reads_at

theorem head_init : StableHlo.after (List.take 4 hostOps0) U (Proc.devRef .tc main_cst) ix0 = Ideal.ofBits .f32 0xFF800000#32 := by
  simp only [hostOps0, List.take_succ_cons, List.take_zero]
  after_reads_at

theorem max_val (r : Fin 6144) (g : Fin 22) :
    StableHlo.after [maxOp] U (Proc.devRef .tc main_v3) (ix2 r g)
      = Finset.fold (max : EReal → EReal → EReal) (U (Proc.devRef .tc main_cst) ix0) (fun k : Fin 128 => U (Proc.devRef .tc main_v2) (ix3 r g k)) Finset.univ := by
  after_reads_at
  have e : Shape.Idx.first h_S_ = ix0 := funext fun a => a.elim0
  rw [e]

theorem max_x (r : Fin 6144) (g : Fin 22) (k : Fin 128) :
    StableHlo.after [maxOp] U (Proc.devRef .tc main_v1) (ix3 r g k) = U (Proc.devRef .tc main_v1) (ix3 r g k) := by
  after_reads_at

set_option maxHeartbeats 2000000 in
theorem rest_scale (r : Fin 6144) (g : Fin 22) :
    StableHlo.after restOps U (Proc.devRef .tc main_v17) (ix2 r g)
      = rScale (U (Proc.devRef .tc main_v3) (ix2 r g)) (HMul.hMul (α := EReal) (β := EReal) (γ := EReal) (U (Proc.devRef .tc main_v3) (ix2 r g)) (Ideal.ofBits .f32 0x3B124925#32)) := by
  unfold rScale rExp
  simp only [restOps, hostOps0, List.drop_succ_cons, List.drop_zero]
  after_reads_at
  rw [show id (constant (F := Ideal) S_ .f32 0x00000000#32) ix0 = (0 : EReal) from Ideal.ofBits_zero_f32]

set_option maxHeartbeats 2000000 in
theorem rest_scaleT (r : Fin 6144) (g : Fin 22) :
    StableHlo.after restOps U (Proc.devRef .tc main_v27) (ix3 g r (0 : Fin 1))
      = rScale (U (Proc.devRef .tc main_v3) (ix2 r g)) (HMul.hMul (α := EReal) (β := EReal) (γ := EReal) (U (Proc.devRef .tc main_v3) (ix2 r g)) (Ideal.ofBits .f32 0x3B124925#32)) := by
  unfold rScale rExp
  simp only [restOps, hostOps0, List.drop_succ_cons, List.drop_zero]
  after_reads_at
  rw [show id (constant (F := Ideal) S_ .f32 0x00000000#32) ix0 = (0 : EReal) from Ideal.ofBits_zero_f32]

set_option maxHeartbeats 2000000 in
theorem rest_code (r : Fin 6144) (d : Fin 2816) :
    StableHlo.after restOps U (Proc.devRef .tc main_v25) (ix2 r d)
      = min (Ideal.ofBits .f32 0x43E00000#32) (max (Ideal.ofBits .f32 0xC3E00000#32)
        (HMul.hMul (α := EReal) (β := EReal) (γ := EReal) (U (Proc.devRef .tc main_v1) (ix3 r (⟨d.val / 128, by omega⟩ : Fin 22) (⟨d.val % 128, Nat.mod_lt _ (by norm_num)⟩ : Fin 128)))
          (rInv (U (Proc.devRef .tc main_v3) (ix2 r (⟨d.val / 128, by omega⟩ : Fin 22))) (HMul.hMul (α := EReal) (β := EReal) (γ := EReal) (U (Proc.devRef .tc main_v3) (ix2 r (⟨d.val / 128, by omega⟩ : Fin 22))) (Ideal.ofBits .f32 0x3B124925#32))))) := by
  unfold rInv rExp
  simp only [restOps, hostOps0, List.drop_succ_cons, List.drop_zero]
  after_reads_at
  rw [show id (constant (F := Ideal) S_ .f32 0x00000000#32) ix0 = (0 : EReal) from Ideal.ofBits_zero_f32]
  rfl

end Stretches

/-! ## What the region finds in its operands -/

theorem mid_x (r : Fin 6144) (g : Fin 22) (k : Fin 128) (d : Fin 2816) (hd : d.val = g.val * 128 + k.val) :
    mid m c (Proc.devRef .tc main_v1) (ix3 r g k) = xRow (m ((c : Thread nD τ).loc main_arg0)) r d :=
  (max_x _ r g k).trans (head_x _ r g k d hd)

theorem mid_amax (r : Fin 6144) (g : Fin 22) :
    mid m c (Proc.devRef .tc main_v3) (ix2 r g) = amax (group (xRow (m ((c : Thread nD τ).loc main_arg0)) r) g) := by
  refine (max_val _ r g).trans ?_
  rw [head_init, ofBits_neg_inf_f32, ← ofBits_neg_inf_bf16]
  exact Finset.fold_congr fun k _ => head_abs _ r g k ⟨128 * g.val + k.val, by omega⟩ (by show 128 * g.val + k.val = g.val * 128 + k.val; omega)

theorem V_scale (r : Fin 6144) (g : Fin 22) :
    V m c main_v17 (ix2 r g) = scale (group (xRow (m ((c : Thread nD τ).loc main_arg0)) r) g) := by
  rw [V_eq]
  refine (rest_scale _ r g).trans ?_
  rw [mid_amax]
  rfl

theorem V_scaleT (r : Fin 6144) (g : Fin 22) :
    V m c main_v27 (ix3 g r (0 : Fin 1)) = scale (group (xRow (m ((c : Thread nD τ).loc main_arg0)) r) g) := by
  rw [V_eq]
  refine (rest_scaleT _ r g).trans ?_
  rw [mid_amax]
  rfl

theorem V_code (r : Fin 6144) (d : Fin 2816) :
    V m c main_v25 (ix2 r d) = codes (m ((c : Thread nD τ).loc main_arg0)) (ix2 r d) := by
  rw [V_eq]
  refine (rest_code _ r d).trans ?_
  rw [mid_amax, mid_x m c r _ _ (⟨128 * (d.val / 128) + d.val % 128, by omega⟩ : Fin 2816)
    (by show 128 * (d.val / 128) + d.val % 128 = d.val / 128 * 128 + d.val % 128; omega)]
  rfl

theorem V_ws (g : Fin 22) (n : Fin 3584) : V m c main_v31 (ix3 g (0 : Fin 1) n) = wsRow (m ((c : Thread nD τ).loc main_arg2)) n g := by
  unfold V wsRow
  after_reads_at

theorem pay2_val (v : Vec Ideal S6144x2816 .f32) (w : Vec Ideal S3584x2816 .fp8e4m3) (s : Vec Ideal S22x6144x1 .f32)
    (t : Vec Ideal S22x1x3584 .f32) (r : Fin 6144) (n : Fin 3584) :
    k0_pay2 v w s t (ix2 r n) = ∑ g : Fin 22, (∑ k : Fin 128, v (ix2 r (⟨128 * g.val + k.val, by omega⟩ : Fin 2816))
      * w (ix2 n (⟨128 * g.val + k.val, by omega⟩ : Fin 2816))) * s (ix3 g r (0 : Fin 1)) * t (ix3 g (0 : Fin 1) n) := by
  pointwise [k0_pay2, k0_pay1]
  simp only [mul_comm _ 128]

theorem pay2_out (v : Vec Ideal S6144x2816 .f32) (w : Vec Ideal S3584x2816 .fp8e4m3) (s : Vec Ideal S22x6144x1 .f32)
    (t : Vec Ideal S22x1x3584 .f32) (r : Fin 6144) (n : Fin 3584) (X W : Fin 2816 → EReal) (S : Fin 22 → EReal)
    (hv : ∀ d : Fin 2816, v (ix2 r d) = code (group X (⟨d.val / 128, by omega⟩ : Fin 22)) (⟨d.val % 128, Nat.mod_lt _ (by norm_num)⟩ : Fin 128))
    (hw : ∀ d, w (ix2 n d) = W d) (hs : ∀ g, s (ix3 g r (0 : Fin 1)) = scale (group X g)) (ht : ∀ g, t (ix3 g (0 : Fin 1) n) = S g) :
    k0_pay2 v w s t (ix2 r n) = out W S X := by
  rw [pay2_val]
  unfold out
  refine Finset.sum_congr rfl fun g _ => ?_
  rw [hs, ht, mul_assoc]
  refine congrArg (HMul.hMul · (scale (group X g) * S g)) (Finset.sum_congr rfl fun k _ => ?_)
  rw [hv, hw, mul_comm]
  refine congrArg (HMul.hMul _) (congr (congrArg (fun g => code (group X g)) (Fin.ext ?_)) (Fin.ext ?_))
  · show (128 * g.val + k.val) / 128 = g.val; omega
  · show (128 * g.val + k.val) % 128 = k.val; omega

/-! ## The results -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

section Blocks
variable (W : (b : Ref sig .tc) → Buf (Elt Ideal) ((c : Thread nD τ).loc b)) (t : Fin cfg0.N)

theorem read0 (i : S6144x2816.Idx) : ((cfg0.win 0).blk t).view.read (Elt Ideal) (W (Pipeline.arrRef spec0 0)) i = W main_v25 i := by
  blk_simp
  refine congrArg (W main_v25) ?_
  blk_ext [idx0]

theorem read1 (i : S3584x2816.Idx) : ((cfg0.win 1).blk t).view.read (Elt Ideal) (W (Pipeline.arrRef spec0 1)) i = W main_arg1 i := by
  blk_simp
  refine congrArg (W main_arg1) ?_
  blk_ext [idx1]

theorem read2 (i : S22x6144x1.Idx) : ((cfg0.win 2).blk t).view.read (Elt Ideal) (W (Pipeline.arrRef spec0 2)) i = W main_v27 i := by
  blk_simp
  refine congrArg (W main_v27) ?_
  blk_ext [idx2]

theorem read3 (i : S22x1x3584.Idx) : ((cfg0.win 3).blk t).view.read (Elt Ideal) (W (Pipeline.arrRef spec0 3)) i = W main_v31 i := by
  blk_simp
  refine congrArg (W main_v31) ?_
  blk_ext [idx3]

end Blocks

theorem blk0 (t : Fin cfg0.N) : iblk m c 0 t = V m c main_v25 := funext fun i => read0 c (V m c) t i
theorem blk1 (t : Fin cfg0.N) : iblk m c 1 t = V m c main_arg1 := funext fun i => read1 c (V m c) t i
theorem blk2 (t : Fin cfg0.N) : iblk m c 2 t = V m c main_v27 := funext fun i => read2 c (V m c) t i
theorem blk3 (t : Fin cfg0.N) : iblk m c 3 t = V m c main_v31 := funext fun i => read3 c (V m c) t i

theorem arr4 : (dats m 0 c).arrAt 4 cfg0.N = products (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨r, n, rfl⟩ : ∃ (r : Fin 6144) (n : Fin 3584), y = ix2 r n := ⟨y 0, y 1, eq_ix2 y⟩
  have e : (win0_4.blk t).view.emb (ix2 r n) = ix2 r n := by
    blk_ext [idx4]
  rw [e]
  rw [blk0, blk1, blk2, blk3]
  exact pay2_out _ _ _ _ r n _ _ _ (fun d => V_code m c r d) (fun d => congrFun (V_main_arg1 m c) _)
    (fun g => V_scaleT m c r g) (fun g => V_ws m c g n)

theorem arr5 : (dats m 0 c).arrAt 5 cfg0.N = codes (m ((c : Thread nD τ).loc main_arg0)) := by
  refine (dats m 0 c).arrAt_eq_of_covers 5 _ (by decide +kernel) fun t hf y => ?_
  blk_simp
  rw [after0_5]
  frame_out
  obtain ⟨r, d, rfl⟩ : ∃ (r : Fin 6144) (d : Fin 2816), y = ix2 r d := ⟨y 0, y 1, eq_ix2 y⟩
  have e : (win0_5.blk t).view.emb (ix2 r d) = ix2 r d := by
    blk_ext [idx5]
  rw [e]
  rw [blk0]
  refine Eq.trans ?_ (V_code m c r d)
  pointwise [k0_pay1]

/-- The scales, which the host computes and the region leaves alone. -/
theorem arr17 : V m c main_v17 = scales (m ((c : Thread nD τ).loc main_arg0)) := by
  funext i
  obtain ⟨r, g, rfl⟩ : ∃ (r : Fin 6144) (g : Fin 22), i = ix2 r g := ⟨i 0, i 1, eq_ix2 i⟩
  exact V_scale m c r g

end Cert.ReferenceIdeal.Hand

end
-- ==== Proof.Algebraic.lean ====
module

public import proofs.«01_k».proof.Defs
public import proofs.«01_k».proof.Proof.KernelArr
public import proofs.«01_k».proof.Proof.RefArr
public import proofs.«01_k».proof.Proof.Gen.Pre_normal
public import Idealize.ShloMosaic.Lib.ReduceAll
public import Idealize.ShloMosaic.Lib.Pointwise

/-! # The kernel and the reference leave equal results

Both leave the three results of `Cert.Quant`, of the arguments they are started on. -/

@[expose] public section

noncomputable section

namespace Cert.Hand

open Idealize.ShloMosaic Idealize.ShloMosaic.TcCoe Idealize.ShloMosaic.Pointwise Idealize.SL.Sem Cert.Quant

/-! ## What the precondition says of a group -/

instance : Subsingleton (Shape.Idx Cert.Pre_normal.S_) := ⟨fun _ _ => funext fun a => a.elim0⟩

/-- The bit of a true proposition. -/
theorem of_bit {p : Prop} [Decidable p] (h : BitVec.ofBool (decide p) = 1#1) : p := by
  by_contra hn
  rw [decide_eq_false hn] at h
  exact absurd h (by decide)

/-- The largest magnitude of a group, as the precondition finds it. -/
theorem amax_val (x : FVec Ideal Cert.Pre_normal.S3x2048x2816 .bf16) (r : Fin 6144) (g : Fin 22) :
    Host.reduce FloatOps.maximumf (Host.absf (extf .f32 (shapeCast Cert.Pre_normal.S6144x22x128 x
        Cert.Pre_normal.Gen.shapeCasts_S3x2048x2816_S6144x22x128) Cert.Pre_normal.Gen.bitsLt_bf16_f32))
      (constant Cert.Pre_normal.S_ .f32 0xFF800000#32) Cert.Pre_normal.Gen.reducesTo_S6144x22x128_S6144x22_d2
      Cert.Pre_normal.Gen.h_S_ (ix2 r g) = amax (group (xRow x r) g) := by
  pointwise
  rw [ofBits_neg_inf_f32, ← ofBits_neg_inf_bf16]
  refine Finset.fold_congr fun k _ => ?_
  simp only [mul_comm g.val 128]
  rfl

/-- The test of one group, of its largest magnitude. -/
theorem normal_of_bits {f : Fin 128 → EReal} (a : EReal) (ha : a = amax f)
    (h : IntOp.ori (Ideal.cmp .oeq a (Ideal.ofBits .f32 0x00000000#32))
      (IntOp.andi (Ideal.cmp .oge (a * Ideal.ofBits .f32 0x3B124925#32) (Ideal.ofBits .f32 0x00800000#32))
        (Ideal.cmp .ole a (Ideal.ofBits .f32 0x7F7F0000#32))) = 1#1) : Normal f := by
  subst ha
  have hor : ∀ p q : BitVec 1, IntOp.ori p q = 1#1 → p = 1#1 ∨ q = 1#1 := by decide
  rcases hor _ _ h with h | h
  · rw [Ideal.ofBits_zero_f32] at h
    exact normal_of_zero (of_bit h)
  · obtain ⟨h1, h2⟩ := IntOp.andi_eq_one.1 h
    exact ⟨of_bit h2, .inr (of_bit h1)⟩

/-- The test, of the largest magnitudes `v` of all groups, at one group. -/
theorem test_val (v : FVec Ideal Cert.Pre_normal.S6144x22 .f32) (r : Fin 6144) (g : Fin 22) :
    ori (cmpf .oeq v (broadcastInDim Cert.Pre_normal.S6144x22 ![] Cert.Pre_normal.Gen.bcast_S_S6144x22 (constant Cert.Pre_normal.S_ .f32 0x00000000#32)))
      (andi (cmpf .oge (mulf v (broadcastInDim Cert.Pre_normal.S6144x22 ![] Cert.Pre_normal.Gen.bcast_S_S6144x22 (constant Cert.Pre_normal.S_ .f32 0x3B124925#32)))
          (broadcastInDim Cert.Pre_normal.S6144x22 ![] Cert.Pre_normal.Gen.bcast_S_S6144x22 (constant Cert.Pre_normal.S_ .f32 0x00800000#32)))
        (cmpf .ole v (broadcastInDim Cert.Pre_normal.S6144x22 ![] Cert.Pre_normal.Gen.bcast_S_S6144x22 (constant Cert.Pre_normal.S_ .f32 0x7F7F0000#32)))) (ix2 r g)
    = IntOp.ori (Ideal.cmp .oeq (v (ix2 r g)) (Ideal.ofBits .f32 0x00000000#32))
      (IntOp.andi (Ideal.cmp .oge (HMul.hMul (α := EReal) (β := EReal) (γ := EReal) (v (ix2 r g)) (Ideal.ofBits .f32 0x3B124925#32)) (Ideal.ofBits .f32 0x00800000#32))
        (Ideal.cmp .ole (v (ix2 r g)) (Ideal.ofBits .f32 0x7F7F0000#32))) := rfl

/-- The precondition asks of every group that it be normal. -/
theorem normal_of_pre (x : FVec Ideal Cert.Pre_normal.S3x2048x2816 .bf16) (w : FVec Ideal Cert.Pre_normal.S3584x2816 .fp8e4m3)
    (ws : FVec Ideal Cert.Pre_normal.S28x22 .f32)
    (h : Cert.Pre_normal.fn (F := Ideal) x w ws = fun _ => 1#1) (r : Fin 6144) (g : Fin 22) :
    Normal (group (xRow x r) g) := by
  unfold Cert.Pre_normal.fn at h
  have e := Host.reduce_andi_all _ _ _ _ (fun a => a.elim0) (congrFun h _) (ix2 r g)
  exact normal_of_bits _ (amax_val x r g) ((test_val _ r g).symm.trans e)

/-- The same, of the memory the kernel starts on. -/
theorem allNormal (m : (ℓ : Loc Cert.KernelIdeal.nD Cert.KernelIdeal.τ Cert.KernelIdeal.sig) → Buf (Elt Ideal) ℓ)
    (h : Cert.Pre_KernelIdeal_normal m) (c : Dev Cert.KernelIdeal.nD) : Cert.KernelIdeal.Hand.AllNormal m c :=
  fun r g => normal_of_pre _ _ _ (h c) r g

/-! ## The reference's run, all three results named -/

section Reference
open Cert.ReferenceIdeal Cert.ReferenceIdeal.Gen

/-- The reference ends with the three results of `Cert.Quant`. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v32_0) = products (m ((c : Thread nD τ).loc main_arg0)) (m ((c : Thread nD τ).loc main_arg1)) (m ((c : Thread nD τ).loc main_arg2))
      ∧ r.2.mem ((c : Thread nD τ).loc main_v32_1) = codes (m ((c : Thread nD τ).loc main_arg0))
      ∧ r.2.mem ((c : Thread nD τ).loc main_v17) = scales (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(Value.post4 m r h c).trans (Hand.arr4 m c), (Value.post5 m r h c).trans (Hand.arr5 m c),
      ((h c).2 main_v17 (Pipeline.mem_restRefs_of main_v17 (by decide) (by decide))).trans (Hand.arr17 m c),
      Value.kept_main_arg0 m r h c, Value.kept_main_arg1 m r h c, Value.kept_main_arg2 m r h c⟩)
    (run_main m ρ)

end Reference

/-! ## The claim -/

/-- Kernel and reference, from equal arguments, end with the same three arrays. -/
theorem algebraic : Cert.algebraic_KernelIdeal_ReferenceIdeal_pre_normal (hKernelIdeal := Cert.KernelIdeal.Gen.facts)
    (hReferenceIdeal := Cert.ReferenceIdeal.Gen.facts) (hPre_normal := Cert.Pre_normal.Gen.facts) := by
  intro m g m' g' hpre hargs
  refine ⟨fun c => products (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => codes (m ((c.tc : Thread Cert.KernelIdeal.nD Cert.KernelIdeal.τ).loc Cert.KernelIdeal.main_arg0)),
    fun c => scales (m ((c.tc : Thread Cert.KernelIdeal.nD Cert.KernelIdeal.τ).loc Cert.KernelIdeal.main_arg0)), ?_, ?_⟩
  · refine (θ_run _ _ _).mono (fun r h c => ?_) (Cert.KernelIdeal.Hand.run_blocks m g)
    have hb := allNormal m hpre c
    obtain ⟨h3, h4, h5, ha⟩ := h c
    exact ⟨h3.trans (Cert.KernelIdeal.Hand.arr3 m c hb), h4.trans (Cert.KernelIdeal.Hand.arr4 m c hb),
      h5.trans (Cert.KernelIdeal.Hand.arr5 m c hb), ha⟩
  · refine (θ_run _ _ _).mono (fun r h c => ?_) (run_reference m' g')
    obtain ⟨h0, h1, h2, ha⟩ := h c
    obtain ⟨e0, e1, e2⟩ := hargs c
    rw [e0, e1, e2] at h0
    rw [e0] at h1 h2
    exact ⟨h0, h1, h2, ha⟩

end Cert.Hand

end
-- ==== Proof.lean ====
/- The kernel's certificate: the frames, the idealization, and the equality of the three results. -/
module

public import proofs.«01_k».proof.Defs
public import proofs.«01_k».proof.Proof.KernelFrame
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_normal.Gen.facts,
    Cert.Kernel.Hand.frame,
    fun m g _ => Cert.KernelIdeal.Hand.frame (F := Ideal) m g,
    fun m g _ => Cert.KernelIdeal.Hand.frame (F := Ideal) m g,
    fun m g _ => Cert.ReferenceIdeal.Gen.frame (F := Ideal) m g,
    fun m g _ => Cert.ReferenceIdeal.Gen.frame (F := Ideal) m g,
    trivial,
    Cert.Hand.algebraic⟩

end Cert.Proof

end
